-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)
  ∧ IdealRules.named_const.Statement Cert.KernelIdeal.κ "softmax_scale" .f32 0x3E38AA3B#32 (((1 / 8) * (Real.log 2)⁻¹ : ℝ) : EReal)

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ preserves_Kernel_KernelIdeal
    ∧ algebraic_KernelIdeal_ReferenceIdeal_pre_finite_gates (hKernelIdeal := hKernelIdeal) (hReferenceIdeal := hReferenceIdeal) (hPre_finite_gates := hPre_finite_gates)
-- ==== Pre_finite_gates.lean ====
abbrev S8x1500x128 : Shape := ⟨3, ![8, 1500, 128]⟩
abbrev S8x1500 : Shape := ⟨2, ![8, 1500]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x2 : Shape := ⟨2, ![128, 2]⟩
abbrev S2 : Shape := ⟨1, ![2]⟩
abbrev S2x128 : Shape := ⟨2, ![2, 128]⟩
abbrev S513x2 : Shape := ⟨2, ![513, 2]⟩
abbrev S1500x128 : Shape := ⟨2, ![1500, 128]⟩
abbrev S128x128 : Shape := ⟨2, ![128, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg23 : FVec F S512 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S512 .f32 := Host.absf main_arg23
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg17 : FVec F S128x128 .f32) (main_arg20 : FVec F S128 .f32) (main_arg21 : FVec F S128 .f32) (main_arg22 : FVec F S128x512 .f32) (main_arg23 : FVec F S512 .f32) (main_v33 : IVec S_ 1) : IVec S_ 1 :=
  let main_v34 : FVec F S128x128 .f32 := Host.absf main_arg17
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg20
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg21
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x512 .f32 := Host.absf main_arg22
  let main_cst_18 : FVec F S_ .f32 := constant S_ .f32 0x7F800000#32
  let main_v50 : FVec F S128x512 .f32 := broadcastInDim S128x512 ![] bcast_S_S128x512 main_cst_18
  fn_part3 (F := F) main_arg23 main_v48 main_v49 main_v50

def fn_part1 {F : FTy → Type} [FloatOps F] (main_arg14 : FVec F S128 .f32) (main_arg15 : FVec F S128 .f32) (main_arg16 : FVec F S128x128 .f32) (main_arg17 : FVec F S128x128 .f32) (main_arg20 : FVec F S128 .f32) (main_arg21 : FVec F S128 .f32) (main_arg22 : FVec F S128x512 .f32) (main_arg23 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128 .f32 := Host.absf main_arg14
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg15
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg16
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg17 main_arg20 main_arg21 main_arg22 main_arg23 main_v33

def fn {F : FTy → Type} [FloatOps F] (main_arg0 : FVec F S8x1500x128 .f32) (main_arg1 : IVec S8x1500 1) (main_arg2 : FVec F S128 .f32) (main_arg3 : FVec F S128 .f32) (main_arg4 : FVec F S128x512 .f32) (main_arg5 : FVec F S512 .f32) (main_arg6 : FVec F S512x128 .f32) (main_arg7 : FVec F S128 .f32) (main_arg8 : FVec F S128x2 .f32) (main_arg9 : FVec F S2 .f32) (main_arg10 : FVec F S2x128 .f32) (main_arg11 : FVec F S128 .f32) (main_arg12 : FVec F S513x2 .f32) (main_arg13 : FVec F S1500x128 .f32) (main_arg14 : FVec F S128 .f32) (main_arg15 : FVec F S128 .f32) (main_arg16 : FVec F S128x128 .f32) (main_arg17 : FVec F S128x128 .f32) (main_arg18 : FVec F S128x128 .f32) (main_arg19 : FVec F S128x128 .f32) (main_arg20 : FVec F S128 .f32) (main_arg21 : FVec F S128 .f32) (main_arg22 : FVec F S128x512 .f32) (main_arg23 : FVec F S512 .f32) (main_arg24 : FVec F S512x128 .f32) (main_arg25 : FVec F S128 .f32) (main_arg26 : FVec F S128 .f32) (main_arg27 : FVec F S128 .f32) : IVec S_ 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x512 .f32 := Host.absf main_arg4
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg14 main_arg15 main_arg16 main_arg17 main_arg20 main_arg21 main_arg22 main_arg23 main_v13 main_v16
-- ==== Kernel.lean ====
abbrev S8x1500x128 : Shape := ⟨3, ![8, 1500, 128]⟩
abbrev S8x1500 : Shape := ⟨2, ![8, 1500]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x2 : Shape := ⟨2, ![128, 2]⟩
abbrev S2 : Shape := ⟨1, ![2]⟩
abbrev S2x128 : Shape := ⟨2, ![2, 128]⟩
abbrev S513x2 : Shape := ⟨2, ![513, 2]⟩
abbrev S1500x128 : Shape := ⟨2, ![1500, 128]⟩
abbrev S128x128 : Shape := ⟨2, ![128, 128]⟩
abbrev S8x1500x1 : Shape := ⟨3, ![8, 1500, 1]⟩
abbrev S1x128 : Shape := ⟨2, ![1, 128]⟩
abbrev S1x512 : Shape := ⟨2, ![1, 512]⟩
abbrev S1x2 : Shape := ⟨2, ![1, 2]⟩
abbrev S8x1x128 : Shape := ⟨3, ![8, 1, 128]⟩
abbrev S1x1500x128 : Shape := ⟨3, ![1, 1500, 128]⟩
abbrev S1x1500x1 : Shape := ⟨3, ![1, 1500, 1]⟩
abbrev S1x1x128 : Shape := ⟨3, ![1, 1, 128]⟩
abbrev S1500 : Shape := ⟨1, ![1500]⟩
abbrev S1500x1 : Shape := ⟨2, ![1500, 1]⟩
abbrev S1500x512 : Shape := ⟨2, ![1500, 512]⟩
abbrev S1500x2 : Shape := ⟨2, ![1500, 2]⟩
abbrev S513 : Shape := ⟨1, ![513]⟩
abbrev S1x513 : Shape := ⟨2, ![1, 513]⟩
abbrev S1500x513 : Shape := ⟨2, ![1500, 513]⟩
abbrev S1x1500x2 : Shape := ⟨3, ![1, 1500, 2]⟩
abbrev S1 : Shape := ⟨1, ![1]⟩
abbrev S1x1x1 : Shape := ⟨3, ![1, 1, 1]⟩
abbrev S1500x64 : Shape := ⟨2, ![1500, 64]⟩
abbrev S1500x1500 : Shape := ⟨2, ![1500, 1500]⟩
abbrev S1500x65 : Shape := ⟨2, ![1500, 65]⟩
abbrev S8x1x1 : Shape := ⟨3, ![8, 1, 1]⟩
abbrev S8 : Shape := ⟨1, ![8]⟩
abbrev S_ : Shape := ⟨0, ![]⟩

abbrev nBuf : Space → Nat
  | .hbm => 54
  | .vmem => 36
  | .smem => 0
  | _ => 0

abbrev bufTy : (tb : Table) → Fin (tcTables nBuf tb) → BufTy
  | .hbm, ⟨0, _⟩ => ⟨S8x1500x128, .f32⟩
  | .hbm, ⟨1, _⟩ => ⟨S8x1500, .i1⟩
  | .hbm, ⟨2, _⟩ => ⟨S128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S2x128, .f32⟩
  | .hbm, ⟨11, _⟩ => ⟨S128, .f32⟩
  | .hbm, ⟨12, _⟩ => ⟨S513x2, .f32⟩
  | .hbm, ⟨13, _⟩ => ⟨S1500x128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128x512, .f32⟩
  | .hbm, ⟨23, _⟩ => ⟨S512, .f32⟩
  | .hbm, ⟨24, _⟩ => ⟨S512x128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S8x1500, .f32⟩
  | .hbm, ⟨29, _⟩ => ⟨S8x1500x1, .f32⟩
  | .hbm, ⟨30, _⟩ => ⟨S1x128, .f32⟩
  | .hbm, ⟨31, _⟩ => ⟨S1x128, .f32⟩
  | .hbm, ⟨32, _⟩ => ⟨S1x512, .f32⟩
  | .hbm, ⟨33, _⟩ => ⟨S1x128, .f32⟩
  | .hbm, ⟨34, _⟩ => ⟨S1x2, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x512, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S8x1500x128, .f32⟩
  | .hbm, ⟨45, _⟩ => ⟨S8x1500x1, .i32⟩
  | .hbm, ⟨46, _⟩ => ⟨S8x1x128, .f32⟩
  | .hbm, ⟨47, _⟩ => ⟨S8x1500, .i32⟩
  | .hbm, ⟨48, _⟩ => ⟨S8x1x1, .f32⟩
  | .hbm, ⟨49, _⟩ => ⟨S8, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x1500x128, .f32⟩
  | .local _ .vmem, ⟨1, _⟩ => ⟨S1x1500x128, .f32⟩
  | .local _ .vmem, ⟨2, _⟩ => ⟨S1x1500x1, .f32⟩
  | .local _ .vmem, ⟨3, _⟩ => ⟨S1x1500x1, .f32⟩
  | .local _ .vmem, ⟨4, _⟩ => ⟨S1x128, .f32⟩
  | .local _ .vmem, ⟨5, _⟩ => ⟨S1x128, .f32⟩
  | .local _ .vmem, ⟨6, _⟩ => ⟨S128x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S128x2, .f32⟩
  | .local _ .vmem, ⟨11, _⟩ => ⟨S1x2, .f32⟩
  | .local _ .vmem, ⟨12, _⟩ => ⟨S2x128, .f32⟩
  | .local _ .vmem, ⟨13, _⟩ => ⟨S1x128, .f32⟩
  | .local _ .vmem, ⟨14, _⟩ => ⟨S513x2, .f32⟩
  | .local _ .vmem, ⟨15, _⟩ => ⟨S1500x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S128x512, .f32⟩
  | .local _ .vmem, ⟨25, _⟩ => ⟨S1x512, .f32⟩
  | .local _ .vmem, ⟨26, _⟩ => ⟨S512x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x1500x128, .f32⟩
  | .local _ .vmem, ⟨31, _⟩ => ⟨S1x1500x128, .f32⟩
  | .local _ .vmem, ⟨32, _⟩ => ⟨S1x1500x1, .i32⟩
  | .local _ .vmem, ⟨33, _⟩ => ⟨S1x1500x1, .i32⟩
  | .local _ .vmem, ⟨34, _⟩ => ⟨S1x1x128, .f32⟩
  | .local _ .vmem, ⟨35, _⟩ => ⟨S1x1x128, .f32⟩
  | _, _ => ⟨S8x1500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16_0 : Ref sig .tc := ⟨.hbm, 44, rfl⟩
abbrev main_v16_1 : Ref sig .tc := ⟨.hbm, 45, rfl⟩
abbrev main_v16_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_cst_0 : Ref sig .tc := ⟨.hbm, 52, rfl⟩
abbrev main_v21 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg28_1 : Ref sig .tc := ⟨.vmem, 31, rfl⟩
abbrev cc0_stg29_0 : Ref sig .tc := ⟨.vmem, 32, rfl⟩
abbrev cc0_stg29_1 : Ref sig .tc := ⟨.vmem, 33, rfl⟩
abbrev cc0_stg30_0 : Ref sig .tc := ⟨.vmem, 34, rfl⟩
abbrev cc0_stg30_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem28_1 : DmaSem sig := 31
abbrev cc0_sem29_0 : DmaSem sig := 32
abbrev cc0_sem29_1 : DmaSem sig := 33
abbrev cc0_sem30_0 : DmaSem sig := 34
abbrev cc0_sem30_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1500x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1500x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S513x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1500x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S1x1500x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1500x1 .i32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== KernelIdeal.lean ====
variable {F : FTy → Type} [FloatOps F] [Named F]
def κ : String → Option EReal := fun
  | "gelu_cubic" => some ((80338380498831 / 2251799813685248 : ℝ) : EReal)
  | "softmax_scale" => some (((1 / 8) * (Real.log 2)⁻¹ : ℝ) : EReal)
  | _ => none
-- ==== ReferenceIdeal.lean ====
abbrev S8x1500x128 : Shape := ⟨3, ![8, 1500, 128]⟩
abbrev S8x1500 : Shape := ⟨2, ![8, 1500]⟩
abbrev S128 : Shape := ⟨1, ![128]⟩
abbrev S128x512 : Shape := ⟨2, ![128, 512]⟩
abbrev S512 : Shape := ⟨1, ![512]⟩
abbrev S512x128 : Shape := ⟨2, ![512, 128]⟩
abbrev S128x2 : Shape := ⟨2, ![128, 2]⟩
abbrev S2 : Shape := ⟨1, ![2]⟩
abbrev S2x128 : Shape := ⟨2, ![2, 128]⟩
abbrev S513x2 : Shape := ⟨2, ![513, 2]⟩
abbrev S1500x128 : Shape := ⟨2, ![1500, 128]⟩
abbrev S128x128 : Shape := ⟨2, ![128, 128]⟩
abbrev S_ : Shape := ⟨0, ![]⟩
abbrev S8x1500x1 : Shape := ⟨3, ![8, 1500, 1]⟩
abbrev S1x1x128 : Shape := ⟨3, ![1, 1, 128]⟩
abbrev S8x1500x512 : Shape := ⟨3, ![8, 1500, 512]⟩
abbrev S1x1x512 : Shape := ⟨3, ![1, 1, 512]⟩
abbrev S8x1500x2 : Shape := ⟨3, ![8, 1500, 2]⟩
abbrev S1x1x2 : Shape := ⟨3, ![1, 1, 2]⟩
abbrev S2x513 : Shape := ⟨2, ![2, 513]⟩
abbrev S8x1500x513 : Shape := ⟨3, ![8, 1500, 513]⟩
abbrev S513 : Shape := ⟨1, ![513]⟩
abbrev S1x1x513 : Shape := ⟨3, ![1, 1, 513]⟩
abbrev S1 : Shape := ⟨1, ![1]⟩
abbrev S1x1x1 : Shape := ⟨3, ![1, 1, 1]⟩
abbrev S1x2 : Shape := ⟨2, ![1, 2]⟩
abbrev S1x1500x128 : Shape := ⟨3, ![1, 1500, 128]⟩
abbrev S8x1500x2x64 : Shape := ⟨4, ![8, 1500, 2, 64]⟩
abbrev S8x2x1500x64 : Shape := ⟨4, ![8, 2, 1500, 64]⟩
abbrev S8x2x1500x1500 : Shape := ⟨4, ![8, 2, 1500, 1500]⟩
abbrev S8x2x1500 : Shape := ⟨3, ![8, 2, 1500]⟩
abbrev S8x2x1500x1 : Shape := ⟨4, ![8, 2, 1500, 1]⟩

abbrev nBuf : Space → Nat
  | .hbm => 360
  | .vmem => 0
  | .smem => 0
  | _ => 0

abbrev hbmTy0_0 (i : Nat) : BufTy := match i % 128 with
  | 0 => ⟨S8x1500x128, .f32⟩
  | 1 => ⟨S8x1500, .i1⟩
  | 2 => ⟨S128, .f32⟩
  | 3 => ⟨S128, .f32⟩
  | 4 => ⟨S128x512, .f32⟩
  | 5 => ⟨S512, .f32⟩
  | 6 => ⟨S512x128, .f32⟩
  | 7 => ⟨S128, .f32⟩
  | 8 => ⟨S128x2, .f32⟩
  | 9 => ⟨S2, .f32⟩
  | 10 => ⟨S2x128, .f32⟩
  | 11 => ⟨S128, .f32⟩
  | 12 => ⟨S513x2, .f32⟩
  | 13 => ⟨S1500x128, .f32⟩
  | 14 => ⟨S128, .f32⟩
  | 15 => ⟨S128, .f32⟩
  | 16 => ⟨S128x128, .f32⟩
  | 17 => ⟨S128x128, .f32⟩
  | 18 => ⟨S128x128, .f32⟩
  | 19 => ⟨S128x128, .f32⟩
  | 20 => ⟨S128, .f32⟩
  | 21 => ⟨S128, .f32⟩
  | 22 => ⟨S128x512, .f32⟩
  | 23 => ⟨S512, .f32⟩
  | 24 => ⟨S512x128, .f32⟩
  | 25 => ⟨S128, .f32⟩
  | 26 => ⟨S128, .f32⟩
  | 27 => ⟨S128, .f32⟩
  | 28 => ⟨S_, .f32⟩
  | 29 => ⟨S8x1500, .f32⟩
  | 30 => ⟨S8x1500x1, .f32⟩
  | 31 => ⟨S_, .f32⟩
  | 32 => ⟨S8x1500x1, .f32⟩
  | 33 => ⟨S8x1500x1, .f32⟩
  | 34 => ⟨S_, .i32⟩
  | 35 => ⟨S_, .f32⟩
  | 36 => ⟨S8x1500, .f32⟩
  | 37 => ⟨S8x1500x1, .f32⟩
  | 38 => ⟨S_, .f32⟩
  | 39 => ⟨S8x1500x1, .f32⟩
  | 40 => ⟨S8x1500x1, .f32⟩
  | 41 => ⟨S8x1500x128, .f32⟩
  | 42 => ⟨S8x1500x128, .f32⟩
  | 43 => ⟨S8x1500x128, .f32⟩
  | 44 => ⟨S_, .f32⟩
  | 45 => ⟨S_, .f32⟩
  | 46 => ⟨S_, .f32⟩
  | 47 => ⟨S_, .f32⟩
  | 48 => ⟨S8x1500, .f32⟩
  | 49 => ⟨S8x1500x1, .f32⟩
  | 50 => ⟨S8x1500x1, .f32⟩
  | 51 => ⟨S8x1500x1, .f32⟩
  | 52 => ⟨S_, .f32⟩
  | 53 => ⟨S_, .i1⟩
  | 54 => ⟨S_, .f32⟩
  | 55 => ⟨S_, .f32⟩
  | 56 => ⟨S8x1500x1, .f32⟩
  | 57 => ⟨S8x1500x1, .f32⟩
  | 58 => ⟨S8x1500x128, .f32⟩
  | 59 => ⟨S8x1500x128, .f32⟩
  | 60 => ⟨S_, .f32⟩
  | 61 => ⟨S8x1500x1, .f32⟩
  | 62 => ⟨S8x1500x1, .f32⟩
  | 63 => ⟨S8x1500x1, .f32⟩
  | 64 => ⟨S8x1500x128, .f32⟩
  | 65 => ⟨S8x1500x128, .f32⟩
  | 66 => ⟨S1x1x128, .f32⟩
  | 67 => ⟨S8x1500x128, .f32⟩
  | 68 => ⟨S8x1500x128, .f32⟩
  | 69 => ⟨S1x1x128, .f32⟩
  | 70 => ⟨S8x1500x128, .f32⟩
  | 71 => ⟨S8x1500x128, .f32⟩
  | 72 => ⟨S8x1500x512, .f32⟩
  | 73 => ⟨S1x1x512, .f32⟩
  | 74 => ⟨S8x1500x512, .f32⟩
  | 75 => ⟨S8x1500x512, .f32⟩
  | 76 => ⟨S_, .f32⟩
  | 77 => ⟨S8x1500x512, .f32⟩
  | 78 => ⟨S8x1500x512, .f32⟩
  | 79 => ⟨S8x1500x512, .f32⟩
  | 80 => ⟨S8x1500x512, .f32⟩
  | 81 => ⟨S_, .f32⟩
  | 82 => ⟨S8x1500x512, .f32⟩
  | 83 => ⟨S8x1500x512, .f32⟩
  | 84 => ⟨S8x1500x512, .f32⟩
  | 85 => ⟨S_, .f32⟩
  | 86 => ⟨S8x1500x512, .f32⟩
  | 87 => ⟨S8x1500x512, .f32⟩
  | 88 => ⟨S8x1500x512, .f32⟩
  | 89 => ⟨S_, .f32⟩
  | 90 => ⟨S8x1500x512, .f32⟩
  | 91 => ⟨S8x1500x512, .f32⟩
  | 92 => ⟨S8x1500x512, .f32⟩
  | 93 => ⟨S8x1500x128, .f32⟩
  | 94 => ⟨S1x1x128, .f32⟩
  | 95 => ⟨S8x1500x128, .f32⟩
  | 96 => ⟨S8x1500x128, .f32⟩
  | 97 => ⟨S8x1500x128, .f32⟩
  | 98 => ⟨S8x1500x2, .f32⟩
  | 99 => ⟨S1x1x2, .f32⟩
  | 100 => ⟨S8x1500x2, .f32⟩
  | 101 => ⟨S8x1500x2, .f32⟩
  | 102 => ⟨S8x1500x2, .f32⟩
  | 103 => ⟨S_, .f32⟩
  | 104 => ⟨S8x1500, .f32⟩
  | 105 => ⟨S8x1500x1, .f32⟩
  | 106 => ⟨S2x513, .f32⟩
  | 107 => ⟨S8x1500x513, .f32⟩
  | 108 => ⟨S_, .f32⟩
  | 109 => ⟨S8x1500x513, .f32⟩
  | 110 => ⟨S8x1500x513, .f32⟩
  | 111 => ⟨S8x1500x513, .f32⟩
  | 112 => ⟨S8x1500x513, .f32⟩
  | 113 => ⟨S513x2, .f32⟩
  | 114 => ⟨S_, .f32⟩
  | 115 => ⟨S513, .f32⟩
  | 116 => ⟨S1x1x513, .f32⟩
  | 117 => ⟨S8x1500x513, .f32⟩
  | 118 => ⟨S8x1500x513, .f32⟩
  | 119 => ⟨S8x1500x513, .i32⟩
  | 120 => ⟨S_, .f32⟩
  | 121 => ⟨S_, .i32⟩
  | 122 => ⟨S8x1500, .f32⟩
  | 123 => ⟨S8x1500, .i32⟩
  | 124 => ⟨S_, .i32⟩
  | 125 => ⟨S8x1500, .i32⟩
  | 126 => ⟨S8x1500, .i1⟩
  | 127 => ⟨S_, .i32⟩
  | _ => ⟨S8x1500x128, .f32⟩

abbrev hbmTy0_1 (i : Nat) : BufTy := match i % 128 with
  | 0 => ⟨S8x1500, .i32⟩
  | 1 => ⟨S8x1500, .i32⟩
  | 2 => ⟨S8x1500, .i32⟩
  | 3 => ⟨S8x1500x1, .i32⟩
  | 4 => ⟨S1, .i32⟩
  | 5 => ⟨S_, .i32⟩
  | 6 => ⟨S8x1500x1, .i32⟩
  | 7 => ⟨S8x1500x1, .i1⟩
  | 8 => ⟨S1x1x1, .i32⟩
  | 9 => ⟨S8x1500x1, .i32⟩
  | 10 => ⟨S8x1500x1, .i1⟩
  | 11 => ⟨S8x1500x1, .i1⟩
  | 12 => ⟨S_, .i1⟩
  | 13 => ⟨S8x1500, .i1⟩
  | 14 => ⟨S8x1500x2, .f32⟩
  | 15 => ⟨S8x1500x2, .i1⟩
  | 16 => ⟨S_, .f32⟩
  | 17 => ⟨S8x1500x2, .f32⟩
  | 18 => ⟨S8x1500x2, .f32⟩
  | 19 => ⟨S8x1500x2, .f32⟩
  | 20 => ⟨S8x1500x2, .f32⟩
  | 21 => ⟨S_, .f32⟩
  | 22 => ⟨S_, .f32⟩
  | 23 => ⟨S_, .f32⟩
  | 24 => ⟨S_, .f32⟩
  | 25 => ⟨S8x1500x2, .f32⟩
  | 26 => ⟨S8x1500x2, .f32⟩
  | 27 => ⟨S8x1500x128, .f32⟩
  | 28 => ⟨S1x1x128, .f32⟩
  | 29 => ⟨S8x1500x128, .f32⟩
  | 30 => ⟨S8x1500x128, .f32⟩
  | 31 => ⟨S1x2, .f32⟩
  | 32 => ⟨S2, .f32⟩
  | 33 => ⟨S128, .f32⟩
  | 34 => ⟨S128, .f32⟩
  | 35 => ⟨S8x1500x1, .i1⟩
  | 36 => ⟨S8x1500x128, .i1⟩
  | 37 => ⟨S8x1500x128, .f32⟩
  | 38 => ⟨S8x1500x128, .f32⟩
  | 39 => ⟨S1x1500x128, .f32⟩
  | 40 => ⟨S8x1500x128, .f32⟩
  | 41 => ⟨S8x1500x128, .f32⟩
  | 42 => ⟨S_, .f32⟩
  | 43 => ⟨S8x1500, .f32⟩
  | 44 => ⟨S8x1500x1, .f32⟩
  | 45 => ⟨S_, .f32⟩
  | 46 => ⟨S8x1500x1, .f32⟩
  | 47 => ⟨S8x1500x1, .f32⟩
  | 48 => ⟨S_, .i32⟩
  | 49 => ⟨S_, .f32⟩
  | 50 => ⟨S8x1500, .f32⟩
  | 51 => ⟨S8x1500x1, .f32⟩
  | 52 => ⟨S_, .f32⟩
  | 53 => ⟨S8x1500x1, .f32⟩
  | 54 => ⟨S8x1500x1, .f32⟩
  | 55 => ⟨S8x1500x128, .f32⟩
  | 56 => ⟨S8x1500x128, .f32⟩
  | 57 => ⟨S8x1500x128, .f32⟩
  | 58 => ⟨S_, .f32⟩
  | 59 => ⟨S_, .f32⟩
  | 60 => ⟨S_, .f32⟩
  | 61 => ⟨S_, .f32⟩
  | 62 => ⟨S8x1500, .f32⟩
  | 63 => ⟨S8x1500x1, .f32⟩
  | 64 => ⟨S8x1500x1, .f32⟩
  | 65 => ⟨S8x1500x1, .f32⟩
  | 66 => ⟨S_, .f32⟩
  | 67 => ⟨S_, .i1⟩
  | 68 => ⟨S_, .f32⟩
  | 69 => ⟨S_, .f32⟩
  | 70 => ⟨S8x1500x1, .f32⟩
  | 71 => ⟨S8x1500x1, .f32⟩
  | 72 => ⟨S8x1500x128, .f32⟩
  | 73 => ⟨S8x1500x128, .f32⟩
  | 74 => ⟨S_, .f32⟩
  | 75 => ⟨S8x1500x1, .f32⟩
  | 76 => ⟨S8x1500x1, .f32⟩
  | 77 => ⟨S8x1500x1, .f32⟩
  | 78 => ⟨S8x1500x128, .f32⟩
  | 79 => ⟨S8x1500x128, .f32⟩
  | 80 => ⟨S1x1x128, .f32⟩
  | 81 => ⟨S8x1500x128, .f32⟩
  | 82 => ⟨S8x1500x128, .f32⟩
  | 83 => ⟨S1x1x128, .f32⟩
  | 84 => ⟨S8x1500x128, .f32⟩
  | 85 => ⟨S8x1500x128, .f32⟩
  | 86 => ⟨S8x1500x128, .f32⟩
  | 87 => ⟨S8x1500x2x64, .f32⟩
  | 88 => ⟨S8x2x1500x64, .f32⟩
  | 89 => ⟨S8x1500x128, .f32⟩
  | 90 => ⟨S8x1500x2x64, .f32⟩
  | 91 => ⟨S8x2x1500x64, .f32⟩
  | 92 => ⟨S8x1500x128, .f32⟩
  | 93 => ⟨S8x1500x2x64, .f32⟩
  | 94 => ⟨S8x2x1500x64, .f32⟩
  | 95 => ⟨S8x2x1500x1500, .f32⟩
  | 96 => ⟨S_, .f32⟩
  | 97 => ⟨S8x2x1500x1500, .f32⟩
  | 98 => ⟨S8x2x1500x1500, .f32⟩
  | 99 => ⟨S_, .f32⟩
  | 100 => ⟨S8x2x1500, .f32⟩
  | 101 => ⟨S_, .f32⟩
  | 102 => ⟨S8x2x1500, .f32⟩
  | 103 => ⟨S8x2x1500, .f32⟩
  | 104 => ⟨S8x2x1500x1, .f32⟩
  | 105 => ⟨S8x2x1500x1500, .f32⟩
  | 106 => ⟨S8x2x1500x1500, .f32⟩
  | 107 => ⟨S8x2x1500x1500, .f32⟩
  | 108 => ⟨S_, .f32⟩
  | 109 => ⟨S8x2x1500, .f32⟩
  | 110 => ⟨S8x2x1500x1, .f32⟩
  | 111 => ⟨S8x2x1500x1500, .f32⟩
  | 112 => ⟨S8x2x1500x1500, .f32⟩
  | 113 => ⟨S8x2x1500x64, .f32⟩
  | 114 => ⟨S8x1500x2x64, .f32⟩
  | 115 => ⟨S8x1500x128, .f32⟩
  | 116 => ⟨S8x1500x128, .f32⟩
  | 117 => ⟨S8x1500x128, .f32⟩
  | 118 => ⟨S_, .f32⟩
  | 119 => ⟨S8x1500, .f32⟩
  | 120 => ⟨S8x1500x1, .f32⟩
  | 121 => ⟨S_, .f32⟩
  | 122 => ⟨S8x1500x1, .f32⟩
  | 123 => ⟨S8x1500x1, .f32⟩
  | 124 => ⟨S_, .i32⟩
  | 125 => ⟨S_, .f32⟩
  | 126 => ⟨S8x1500, .f32⟩
  | 127 => ⟨S8x1500x1, .f32⟩
  | _ => ⟨S8x1500x128, .f32⟩

abbrev hbmTy0_2 (i : Nat) : BufTy := match i % 128 with
  | 0 => ⟨S_, .f32⟩
  | 1 => ⟨S8x1500x1, .f32⟩
  | 2 => ⟨S8x1500x1, .f32⟩
  | 3 => ⟨S8x1500x128, .f32⟩
  | 4 => ⟨S8x1500x128, .f32⟩
  | 5 => ⟨S8x1500x128, .f32⟩
  | 6 => ⟨S_, .f32⟩
  | 7 => ⟨S_, .f32⟩
  | 8 => ⟨S_, .f32⟩
  | 9 => ⟨S_, .f32⟩
  | 10 => ⟨S8x1500, .f32⟩
  | 11 => ⟨S8x1500x1, .f32⟩
  | 12 => ⟨S8x1500x1, .f32⟩
  | 13 => ⟨S8x1500x1, .f32⟩
  | 14 => ⟨S_, .f32⟩
  | 15 => ⟨S_, .i1⟩
  | 16 => ⟨S_, .f32⟩
  | 17 => ⟨S_, .f32⟩
  | 18 => ⟨S8x1500x1, .f32⟩
  | 19 => ⟨S8x1500x1, .f32⟩
  | 20 => ⟨S8x1500x128, .f32⟩
  | 21 => ⟨S8x1500x128, .f32⟩
  | 22 => ⟨S_, .f32⟩
  | 23 => ⟨S8x1500x1, .f32⟩
  | 24 => ⟨S8x1500x1, .f32⟩
  | 25 => ⟨S8x1500x1, .f32⟩
  | 26 => ⟨S8x1500x128, .f32⟩
  | 27 => ⟨S8x1500x128, .f32⟩
  | 28 => ⟨S1x1x128, .f32⟩
  | 29 => ⟨S8x1500x128, .f32⟩
  | 30 => ⟨S8x1500x128, .f32⟩
  | 31 => ⟨S1x1x128, .f32⟩
  | 32 => ⟨S8x1500x128, .f32⟩
  | 33 => ⟨S8x1500x128, .f32⟩
  | 34 => ⟨S8x1500x512, .f32⟩
  | 35 => ⟨S1x1x512, .f32⟩
  | 36 => ⟨S8x1500x512, .f32⟩
  | 37 => ⟨S8x1500x512, .f32⟩
  | 38 => ⟨S_, .f32⟩
  | 39 => ⟨S8x1500x512, .f32⟩
  | 40 => ⟨S8x1500x512, .f32⟩
  | 41 => ⟨S8x1500x512, .f32⟩
  | 42 => ⟨S8x1500x512, .f32⟩
  | 43 => ⟨S_, .f32⟩
  | 44 => ⟨S8x1500x512, .f32⟩
  | 45 => ⟨S8x1500x512, .f32⟩
  | 46 => ⟨S8x1500x512, .f32⟩
  | 47 => ⟨S_, .f32⟩
  | 48 => ⟨S8x1500x512, .f32⟩
  | 49 => ⟨S8x1500x512, .f32⟩
  | 50 => ⟨S8x1500x512, .f32⟩
  | 51 => ⟨S_, .f32⟩
  | 52 => ⟨S8x1500x512, .f32⟩
  | 53 => ⟨S8x1500x512, .f32⟩
  | 54 => ⟨S8x1500x512, .f32⟩
  | 55 => ⟨S8x1500x128, .f32⟩
  | 56 => ⟨S1x1x128, .f32⟩
  | 57 => ⟨S8x1500x128, .f32⟩
  | 58 => ⟨S8x1500x128, .f32⟩
  | 59 => ⟨S8x1500x128, .f32⟩
  | 60 => ⟨S_, .f32⟩
  | 61 => ⟨S8x1500, .f32⟩
  | 62 => ⟨S8x1500x1, .f32⟩
  | 63 => ⟨S_, .f32⟩
  | 64 => ⟨S8x1500x1, .f32⟩
  | 65 => ⟨S8x1500x1, .f32⟩
  | 66 => ⟨S_, .i32⟩
  | 67 => ⟨S_, .f32⟩
  | 68 => ⟨S8x1500, .f32⟩
  | 69 => ⟨S8x1500x1, .f32⟩
  | 70 => ⟨S_, .f32⟩
  | 71 => ⟨S8x1500x1, .f32⟩
  | 72 => ⟨S8x1500x1, .f32⟩
  | 73 => ⟨S8x1500x128, .f32⟩
  | 74 => ⟨S8x1500x128, .f32⟩
  | 75 => ⟨S8x1500x128, .f32⟩
  | 76 => ⟨S_, .f32⟩
  | 77 => ⟨S_, .f32⟩
  | 78 => ⟨S_, .f32⟩
  | 79 => ⟨S_, .f32⟩
  | 80 => ⟨S8x1500, .f32⟩
  | 81 => ⟨S8x1500x1, .f32⟩
  | 82 => ⟨S8x1500x1, .f32⟩
  | 83 => ⟨S8x1500x1, .f32⟩
  | 84 => ⟨S_, .f32⟩
  | 85 => ⟨S_, .i1⟩
  | 86 => ⟨S_, .f32⟩
  | 87 => ⟨S_, .f32⟩
  | 88 => ⟨S8x1500x1, .f32⟩
  | 89 => ⟨S8x1500x1, .f32⟩
  | 90 => ⟨S8x1500x128, .f32⟩
  | 91 => ⟨S8x1500x128, .f32⟩
  | 92 => ⟨S_, .f32⟩
  | 93 => ⟨S8x1500x1, .f32⟩
  | 94 => ⟨S8x1500x1, .f32⟩
  | 95 => ⟨S8x1500x1, .f32⟩
  | 96 => ⟨S8x1500x128, .f32⟩
  | 97 => ⟨S8x1500x128, .f32⟩
  | 98 => ⟨S1x1x128, .f32⟩
  | 99 => ⟨S8x1500x128, .f32⟩
  | 100 => ⟨S8x1500x128, .f32⟩
  | 101 => ⟨S1x1x128, .f32⟩
  | 102 => ⟨S8x1500x128, .f32⟩
  | 103 => ⟨S8x1500x128, .f32⟩
  | _ => ⟨S8x1500x128, .f32⟩

abbrev hbmTy (i : Nat) : BufTy := match i / 128 with
  | 0 => hbmTy0_0 i
  | 1 => hbmTy0_1 i
  | 2 => hbmTy0_2 i
  | _ => ⟨S8x1500x128, .f32⟩

abbrev bufTy : (tb : Table) → Fin (tcTables nBuf tb) → BufTy
  | .hbm, ⟨i, _⟩ => hbmTy i
  | _, _ => ⟨S8x1500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_cst_3 : Ref sig .tc := ⟨.hbm, 52, rfl⟩
abbrev main_call0_v13 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_cst_1 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_2 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_3 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_4 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_5 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_cst_6 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_7 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_8 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_call1_v0 : Ref sig .tc := ⟨.hbm, 119, rfl⟩
abbrev main_call1_cst : Ref sig .tc := ⟨.hbm, 120, rfl⟩
abbrev main_call1_c : Ref sig .tc := ⟨.hbm, 121, rfl⟩
abbrev main_call1_v1_0 : Ref sig .tc := ⟨.hbm, 122, rfl⟩
abbrev main_v58 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_cst_9 : Ref sig .tc := ⟨.hbm, 149, rfl⟩
abbrev main_v62 : Ref sig .tc := ⟨.hbm, 150, rfl⟩
abbrev main_cst_10 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_call3_v0 : Ref sig .tc := ⟨.hbm, 164, rfl⟩
abbrev main_call3_v1 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_cst_11 : Ref sig .tc := ⟨.hbm, 170, rfl⟩
abbrev main_v79 : Ref sig .tc := ⟨.hbm, 171, rfl⟩
abbrev main_v80 : Ref sig .tc := ⟨.hbm, 172, rfl⟩
abbrev main_cst_12 : Ref sig .tc := ⟨.hbm, 173, rfl⟩
abbrev main_v81 : Ref sig .tc := ⟨.hbm, 174, rfl⟩
abbrev main_v82 : Ref sig .tc := ⟨.hbm, 175, rfl⟩
abbrev main_c_13 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_cst_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_v7 : Ref sig .tc := ⟨.hbm, 186, rfl⟩
abbrev main_call4_cst_1 : Ref sig .tc := ⟨.hbm, 187, rfl⟩
abbrev main_call4_v8 : Ref sig .tc := ⟨.hbm, 188, rfl⟩
abbrev main_call4_cst_2 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_v12 : Ref sig .tc := ⟨.hbm, 193, rfl⟩
abbrev main_call4_cst_3 : Ref sig .tc := ⟨.hbm, 194, rfl⟩
abbrev main_call4_v13 : Ref sig .tc := ⟨.hbm, 195, rfl⟩
abbrev main_call4_cst_4 : Ref sig .tc := ⟨.hbm, 196, rfl⟩
abbrev main_call4_call0_v0 : Ref sig .tc := ⟨.hbm, 197, rfl⟩
abbrev main_call4_call0_v1 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_cst_14 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_cst_15 : Ref sig .tc := ⟨.hbm, 224, rfl⟩
abbrev main_v107 : Ref sig .tc := ⟨.hbm, 225, rfl⟩
abbrev main_v108 : Ref sig .tc := ⟨.hbm, 226, rfl⟩
abbrev main_cst_16 : Ref sig .tc := ⟨.hbm, 227, rfl⟩
abbrev main_v109 : Ref sig .tc := ⟨.hbm, 228, rfl⟩
abbrev main_cst_17 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_cst_18 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev main_v124 : Ref sig .tc := ⟨.hbm, 245, rfl⟩
abbrev main_cst_19 : Ref sig .tc := ⟨.hbm, 246, rfl⟩
abbrev main_v125 : Ref sig .tc := ⟨.hbm, 247, rfl⟩
abbrev main_v126 : Ref sig .tc := ⟨.hbm, 248, rfl⟩
abbrev main_cst_20 : Ref sig .tc := ⟨.hbm, 249, rfl⟩
abbrev main_v127 : Ref sig .tc := ⟨.hbm, 250, rfl⟩
abbrev main_v128 : Ref sig .tc := ⟨.hbm, 251, rfl⟩
abbrev main_c_21 : Ref sig .tc := ⟨.hbm, 252, rfl⟩
abbrev main_call5_cst : Ref sig .tc := ⟨.hbm, 253, rfl⟩
abbrev main_call5_v0 : Ref sig .tc := ⟨.hbm, 254, rfl⟩
abbrev main_call5_v1 : Ref sig .tc := ⟨.hbm, 255, rfl⟩
abbrev main_call5_cst_0 : Ref sig .tc := ⟨.hbm, 256, rfl⟩
abbrev main_call5_v2 : Ref sig .tc := ⟨.hbm, 257, rfl⟩
abbrev main_call5_v3 : Ref sig .tc := ⟨.hbm, 258, rfl⟩
abbrev main_call5_v4 : Ref sig .tc := ⟨.hbm, 259, rfl⟩
abbrev main_call5_v5 : Ref sig .tc := ⟨.hbm, 260, rfl⟩
abbrev main_call5_v6 : Ref sig .tc := ⟨.hbm, 261, rfl⟩
abbrev main_call5_v7 : Ref sig .tc := ⟨.hbm, 262, rfl⟩
abbrev main_call5_cst_1 : Ref sig .tc := ⟨.hbm, 263, rfl⟩
abbrev main_call5_v8 : Ref sig .tc := ⟨.hbm, 264, rfl⟩
abbrev main_call5_cst_2 : Ref sig .tc := ⟨.hbm, 265, rfl⟩
abbrev main_call5_v9 : Ref sig .tc := ⟨.hbm, 266, rfl⟩
abbrev main_call5_v10 : Ref sig .tc := ⟨.hbm, 267, rfl⟩
abbrev main_call5_v11 : Ref sig .tc := ⟨.hbm, 268, rfl⟩
abbrev main_call5_v12 : Ref sig .tc := ⟨.hbm, 269, rfl⟩
abbrev main_call5_cst_3 : Ref sig .tc := ⟨.hbm, 270, rfl⟩
abbrev main_call5_v13 : Ref sig .tc := ⟨.hbm, 271, rfl⟩
abbrev main_call5_cst_4 : Ref sig .tc := ⟨.hbm, 272, rfl⟩
abbrev main_call5_call0_v0 : Ref sig .tc := ⟨.hbm, 273, rfl⟩
abbrev main_call5_call0_v1 : Ref sig .tc := ⟨.hbm, 274, rfl⟩
abbrev main_v129 : Ref sig .tc := ⟨.hbm, 275, rfl⟩
abbrev main_v130 : Ref sig .tc := ⟨.hbm, 276, rfl⟩
abbrev main_v131 : Ref sig .tc := ⟨.hbm, 277, rfl⟩
abbrev main_cst_22 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_cst_23 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_cst_24 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_cst_25 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_cst_26 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_v162 : Ref sig .tc := ⟨.hbm, 313, rfl⟩
abbrev main_v163 : Ref sig .tc := ⟨.hbm, 314, rfl⟩
abbrev main_v164 : Ref sig .tc := ⟨.hbm, 315, rfl⟩
abbrev main_cst_27 : Ref sig .tc := ⟨.hbm, 316, rfl⟩
abbrev main_v165 : Ref sig .tc := ⟨.hbm, 317, rfl⟩
abbrev main_v166 : Ref sig .tc := ⟨.hbm, 318, rfl⟩
abbrev main_cst_28 : Ref sig .tc := ⟨.hbm, 319, rfl⟩
abbrev main_v167 : Ref sig .tc := ⟨.hbm, 320, rfl⟩
abbrev main_v168 : Ref sig .tc := ⟨.hbm, 321, rfl⟩
abbrev main_c_29 : Ref sig .tc := ⟨.hbm, 322, rfl⟩
abbrev main_call6_cst : Ref sig .tc := ⟨.hbm, 323, rfl⟩
abbrev main_call6_v0 : Ref sig .tc := ⟨.hbm, 324, rfl⟩
abbrev main_call6_v1 : Ref sig .tc := ⟨.hbm, 325, rfl⟩
abbrev main_call6_cst_0 : Ref sig .tc := ⟨.hbm, 326, rfl⟩
abbrev main_call6_v2 : Ref sig .tc := ⟨.hbm, 327, rfl⟩
abbrev main_call6_v3 : Ref sig .tc := ⟨.hbm, 328, rfl⟩
abbrev main_call6_v4 : Ref sig .tc := ⟨.hbm, 329, rfl⟩
abbrev main_call6_v5 : Ref sig .tc := ⟨.hbm, 330, rfl⟩
abbrev main_call6_v6 : Ref sig .tc := ⟨.hbm, 331, rfl⟩
abbrev main_call6_v7 : Ref sig .tc := ⟨.hbm, 332, rfl⟩
abbrev main_call6_cst_1 : Ref sig .tc := ⟨.hbm, 333, rfl⟩
abbrev main_call6_v8 : Ref sig .tc := ⟨.hbm, 334, rfl⟩
abbrev main_call6_cst_2 : Ref sig .tc := ⟨.hbm, 335, rfl⟩
abbrev main_call6_v9 : Ref sig .tc := ⟨.hbm, 336, rfl⟩
abbrev main_call6_v10 : Ref sig .tc := ⟨.hbm, 337, rfl⟩
abbrev main_call6_v11 : Ref sig .tc := ⟨.hbm, 338, rfl⟩
abbrev main_call6_v12 : Ref sig .tc := ⟨.hbm, 339, rfl⟩
abbrev main_call6_cst_3 : Ref sig .tc := ⟨.hbm, 340, rfl⟩
abbrev main_call6_v13 : Ref sig .tc := ⟨.hbm, 341, rfl⟩
abbrev main_call6_cst_4 : Ref sig .tc := ⟨.hbm, 342, rfl⟩
abbrev main_call6_call0_v0 : Ref sig .tc := ⟨.hbm, 343, rfl⟩
abbrev main_call6_call0_v1 : Ref sig .tc := ⟨.hbm, 344, rfl⟩
abbrev main_v169 : Ref sig .tc := ⟨.hbm, 345, rfl⟩
abbrev main_v170 : Ref sig .tc := ⟨.hbm, 346, rfl⟩
abbrev main_v171 : Ref sig .tc := ⟨.hbm, 347, rfl⟩
abbrev main_cst_30 : Ref sig .tc := ⟨.hbm, 348, rfl⟩
abbrev main_v172 : Ref sig .tc := ⟨.hbm, 349, rfl⟩
abbrev main_v173 : Ref sig .tc := ⟨.hbm, 350, rfl⟩
abbrev main_v174 : Ref sig .tc := ⟨.hbm, 351, rfl⟩
abbrev main_v175 : Ref sig .tc := ⟨.hbm, 352, rfl⟩
abbrev main_v176 : Ref sig .tc := ⟨.hbm, 353, rfl⟩
abbrev main_v177 : Ref sig .tc := ⟨.hbm, 354, rfl⟩
abbrev main_v178 : Ref sig .tc := ⟨.hbm, 355, rfl⟩
abbrev main_v179 : Ref sig .tc := ⟨.hbm, 356, rfl⟩
abbrev main_v180 : Ref sig .tc := ⟨.hbm, 357, rfl⟩
abbrev main_v181 : Ref sig .tc := ⟨.hbm, 358, rfl⟩
abbrev main_v182 : Ref sig .tc := ⟨.hbm, 359, rfl⟩

abbrev nD : Nat := 1
abbrev τ : Topo := Topo.v7x

variable {F : FTy → Type} [FloatOps F]
-- ==== Proof.KernelIdealRun.lean ====
/-
  The run of KernelIdeal: the kernel body's triple, the pipeline's proof data, and the whole launch.  After the body at a
  grid point every input buffer holds its block and the three output buffers hold `out0_28`, `out0_29`, `out0_30`
  of the input blocks; `run_main` carries this through all eight points and the host lines after the region.
  The set-up follows the frame proofs of this library's one-region kernels.
-/
module

public import proofs.«01_k».proof.Proof.Gen.KernelIdeal.Frame
public import proofs.«01_k».proof.Proof.Gen.KernelIdeal.Skeleton
public import Idealize.ShloMosaic.Lib.Ring
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1x1500x128 := Rect.unit (s := S1x1500x128) ![0, 0, 0] S1x1500x128.size inb_S1x1500x128_S1x1500x128_0_0_0
abbrev r0_1 : Rect S1x128 := Rect.unit (s := S1x128) ![0, 0] S1x128.size inb_S1x128_S1x128_0_0
abbrev r0_2 : Rect S128x512 := Rect.unit (s := S128x512) ![0, 0] S128x512.size inb_S128x512_S128x512_0_0
abbrev r0_3 : Rect S1x512 := Rect.unit (s := S1x512) ![0, 0] S1x512.size inb_S1x512_S1x512_0_0
abbrev r0_4 : Rect S512x128 := Rect.unit (s := S512x128) ![0, 0] S512x128.size inb_S512x128_S512x128_0_0
abbrev r0_5 : Rect S513x2 := Rect.unit (s := S513x2) ![0, 0] S513x2.size inb_S513x2_S513x2_0_0
abbrev r0_6 : Rect S128x2 := Rect.unit (s := S128x2) ![0, 0] S128x2.size inb_S128x2_S128x2_0_0
abbrev r0_7 : Rect S1x2 := Rect.unit (s := S1x2) ![0, 0] S1x2.size inb_S1x2_S1x2_0_0
abbrev r0_8 : Rect S1x1500x1 := Rect.unit (s := S1x1500x1) ![0, 0, 0] S1x1500x1.size inb_S1x1500x1_S1x1500x1_0_0_0
abbrev r0_9 : Rect S1x1x128 := Rect.unit (s := S1x1x128) ![0, 0, 0] S1x1x128.size inb_S1x1x128_S1x1x128_0_0_0
abbrev r0_10 : Rect S2x128 := Rect.unit (s := S2x128) ![0, 0] S2x128.size inb_S2x128_S2x128_0_0
abbrev r0_11 : Rect S1500x128 := Rect.unit (s := S1500x128) ![0, 0] S1500x128.size inb_S1500x128_S1500x128_0_0
abbrev r0_12 : Rect S128x128 := Rect.unit (s := S128x128) ![0, 0] S128x128.size inb_S128x128_S128x128_0_0

/-! ## What the body leaves in each output window's buffer -/

/-! ### Values of the body that the stores' payloads, spelt out, would write more than once

    Each is a vector the body binds (often a part call's result), stated over the input windows' blocks and
    numbered on from the skeleton's payload functions (`k0_pay25` …, after `k0_pay24`), so that
    `out0_W` and the values after it name it instead of spelling it out (`unfold_out out0_W` opens a canon
    with them, `unfold_payloads` opens them with the payloads); the comment after each is the printed function's
    name for the value (a count appended where that name is bound again). -/

section Values
variable (x0 : Vec F S1x1500x128 .f32) (x1 : Vec F S1x1500x1 .f32) (x2 : Vec F S1x128 .f32) (x3 : Vec F S1x128 .f32) (x4 : Vec F S128x512 .f32) (x5 : Vec F S1x512 .f32) (x6 : Vec F S512x128 .f32) (x7 : Vec F S1x128 .f32) (x8 : Vec F S128x2 .f32) (x9 : Vec F S1x2 .f32) (x10 : Vec F S2x128 .f32) (x11 : Vec F S1x128 .f32) (x12 : Vec F S513x2 .f32) (x13 : Vec F S1500x128 .f32) (x14 : Vec F S1x128 .f32) (x15 : Vec F S1x128 .f32) (x16 : Vec F S128x128 .f32) (x17 : Vec F S128x128 .f32) (x18 : Vec F S128x128 .f32) (x19 : Vec F S128x128 .f32) (x20 : Vec F S1x128 .f32) (x21 : Vec F S1x128 .f32) (x22 : Vec F S128x512 .f32) (x23 : Vec F S1x512 .f32) (x24 : Vec F S512x128 .f32) (x25 : Vec F S1x128 .f32) (x26 : Vec F S1x128 .f32) (x27 : Vec F S1x128 .f32)

def k0_pay25 : FVec F S1500x128 .f32 :=
  k0_pay2 (View.ld x0 r0_0) -- `v1`
def k0_pay26 : FVec F S1500x512 .f32 :=
  k0_pay3 (View.ld x0 r0_0) (View.ld x2 r0_1) (View.ld x3 r0_1) (View.ld x4 r0_2) (View.ld x5 r0_3) -- `v31`
def k0_pay27 : FVec F S1500x512 .f32 :=
  k0_pay4 (View.ld x0 r0_0) (View.ld x2 r0_1) (View.ld x3 r0_1) (View.ld x4 r0_2) (View.ld x5 r0_3) -- `v38`
def k0_pay28 : IVec S1500x513 32 :=
  iota .tc S1500x513 32 [1] iota_S1500x513_d1_w32 -- `v72`
def k0_pay29 : FVec F S1500x2 .f32 :=
  k0_pay5 (k0_pay25 x0) (k0_pay26 x0 x2 x3 x4 x5) (k0_pay27 x0 x2 x3 x4 x5) (Scalar.ofBits .f32 0x3F000000#32) (View.ld x6 r0_4) (View.ld x7 r0_1) (View.ld x8 r0_6) (View.ld x9 r0_7) -- `v56`
def k0_pay30 : IVec S1500x1 32 :=
  k0_pay6 (k0_pay25 x0) (k0_pay26 x0 x2 x3 x4 x5) (k0_pay27 x0 x2 x3 x4 x5) (Scalar.ofBits .f32 0x3F000000#32) (View.ld x6 r0_4) (View.ld x7 r0_1) (View.ld x12 r0_5) (View.ld x8 r0_6) (View.ld x9 r0_7) -- `v78`
def k0_pay31 : FVec F S1500x128 .f32 :=
  k0_pay10 (View.ld x12 r0_5) (k0_pay29 x0 x2 x3 x4 x5 x6 x7 x8 x9) k0_pay28 (k0_pay30 x0 x2 x3 x4 x5 x6 x7 x8 x9 x12) (View.ld x1 r0_8) (View.ld x10 r0_10) (View.ld x11 r0_1) (View.ld x13 r0_11) -- `v116`
def k0_pay32 : FVec F S1500x128 .f32 :=
  k0_pay12 (k0_pay31 x0 x1 x2 x3 x4 x5 x6 x7 x8 x9 x10 x11 x12 x13) (View.ld x14 r0_1) (View.ld x15 r0_1) (View.ld x16 r0_12) -- `v144`
def k0_pay33 : FVec F S1500x128 .f32 :=
  k0_pay13 (k0_pay31 x0 x1 x2 x3 x4 x5 x6 x7 x8 x9 x10 x11 x12 x13) (View.ld x14 r0_1) (View.ld x15 r0_1) (View.ld x17 r0_12) -- `v146`
def k0_pay34 : FVec F S1500x128 .f32 :=
  k0_pay14 (k0_pay31 x0 x1 x2 x3 x4 x5 x6 x7 x8 x9 x10 x11 x12 x13) (View.ld x14 r0_1) (View.ld x15 r0_1) (View.ld x18 r0_12) -- `v148`
def k0_pay35 : FVec F S1500x1 .f32 :=
  k0_pay15 (F := F) -- `v149`
def k0_pay36 : FVec F S1500x65 .f32 :=
  k0_pay16 (k0_pay31 x0 x1 x2 x3 x4 x5 x6 x7 x8 x9 x10 x11 x12 x13) (View.ld x14 r0_1) (View.ld x15 r0_1) (View.ld x16 r0_12) (View.ld x17 r0_12) (View.ld x18 r0_12) -- `v156`
def k0_pay37 : FVec F S1500x128 .f32 :=
  k0_pay17 (k0_pay31 x0 x1 x2 x3 x4 x5 x6 x7 x8 x9 x10 x11 x12 x13) (k0_pay32 x0 x1 x2 x3 x4 x5 x6 x7 x8 x9 x10 x11 x12 x13 x14 x15 x16) (k0_pay33 x0 x1 x2 x3 x4 x5 x6 x7 x8 x9 x10 x11 x12 x13 x14 x15 x17) (k0_pay34 x0 x1 x2 x3 x4 x5 x6 x7 x8 x9 x10 x11 x12 x13 x14 x15 x18) (k0_pay35 (F := F)) (k0_pay36 x0 x1 x2 x3 x4 x5 x6 x7 x8 x9 x10 x11 x12 x13 x14 x15 x16 x17 x18) (View.ld x19 r0_12) -- `v179`
def k0_pay38 : FVec F S1x128 .f32 :=
  k0_pay18 (View.ld x21 r0_1) -- `v183`
def k0_pay39 : FVec F S1500x128 .f32 :=
  k0_pay19 (k0_pay31 x0 x1 x2 x3 x4 x5 x6 x7 x8 x9 x10 x11 x12 x13) (k0_pay32 x0 x1 x2 x3 x4 x5 x6 x7 x8 x9 x10 x11 x12 x13 x14 x15 x16) (k0_pay33 x0 x1 x2 x3 x4 x5 x6 x7 x8 x9 x10 x11 x12 x13 x14 x15 x17) (k0_pay34 x0 x1 x2 x3 x4 x5 x6 x7 x8 x9 x10 x11 x12 x13 x14 x15 x18) (k0_pay35 (F := F)) (k0_pay36 x0 x1 x2 x3 x4 x5 x6 x7 x8 x9 x10 x11 x12 x13 x14 x15 x16 x17 x18) (View.ld x19 r0_12) -- `v199`
def k0_pay40 : FVec F S1500x128 .f32 :=
  k0_pay20 (View.ld x20 r0_1) -- `v200`

/-- Window 28's staging buffer after the body, from the input windows' blocks: its 1 store as pieces, LAST
    FIRST (Lib/Pipeline/FrameBody.lean `View.canon`; the payloads are the skeleton's and the values stated above). -/
def out0_28 : Vec F S1x1500x128 .f32 :=
  View.canon [⟨r0_0, k0_pay1 (k0_pay21 (View.ld x26 r0_1)) (k0_pay22 (View.ld x27 r0_1)) (k0_pay23 (k0_pay37 x0 x1 x2 x3 x4 x5 x6 x7 x8 x9 x10 x11 x12 x13 x14 x15 x16 x17 x18 x19) (k0_pay38 x21) (k0_pay39 x0 x1 x2 x3 x4 x5 x6 x7 x8 x9 x10 x11 x12 x13 x14 x15 x16 x17 x18 x19) (k0_pay40 x20) (View.ld x22 r0_2) (View.ld x23 r0_3) (View.ld x24 r0_4) (View.ld x25 r0_1)) (k0_pay24 (k0_pay37 x0 x1 x2 x3 x4 x5 x6 x7 x8 x9 x10 x11 x12 x13 x14 x15 x16 x17 x18 x19) (k0_pay38 x21) (k0_pay39 x0 x1 x2 x3 x4 x5 x6 x7 x8 x9 x10 x11 x12 x13 x14 x15 x16 x17 x18 x19) (k0_pay40 x20) (View.ld x22 r0_2) (View.ld x23 r0_3) (View.ld x24 r0_4) (View.ld x25 r0_1))⟩]

/-- Its stores tile the buffer (checked by evaluation), so they cover it. -/
theorem cover0_28 (p0 : Vec F S1x1500x128 .f32) (y : S1x1500x128.Idx) :
    ∃ pc ∈ ([⟨r0_0, p0⟩] : List (View.Piece (Elt F) S1x1500x128 .f32)), y ∈ pc.1.set :=
  View.cover_of_tiled [⟨r0_0, p0⟩] S1x1500x128.size (by rfl) y

/-- Window 29's staging buffer after the body, from the input windows' blocks: its 1 store as pieces, LAST
    FIRST (Lib/Pipeline/FrameBody.lean `View.canon`; the payloads are the skeleton's and the values stated above). -/
def out0_29 : Vec F S1x1500x1 .i32 :=
  View.canon [⟨r0_8, k0_pay7 (k0_pay30 x0 x2 x3 x4 x5 x6 x7 x8 x9 x12)⟩]

/-- Its stores tile the buffer (checked by evaluation), so they cover it. -/
theorem cover0_29 (p0 : Vec F S1x1500x1 .i32) (y : S1x1500x1.Idx) :
    ∃ pc ∈ ([⟨r0_8, p0⟩] : List (View.Piece (Elt F) S1x1500x1 .i32)), y ∈ pc.1.set :=
  View.cover_of_tiled [⟨r0_8, p0⟩] S1x1500x1.size (by rfl) y

/-- Window 30's staging buffer after the body, from the input windows' blocks: its 1 store as pieces, LAST
    FIRST (Lib/Pipeline/FrameBody.lean `View.canon`; the payloads are the skeleton's and the values stated above). -/
def out0_30 : Vec F S1x1x128 .f32 :=
  View.canon [⟨r0_9, k0_pay9 (View.ld x12 r0_5) (k0_pay29 x0 x2 x3 x4 x5 x6 x7 x8 x9) k0_pay28 (k0_pay30 x0 x2 x3 x4 x5 x6 x7 x8 x9 x12)⟩]

/-- Its stores tile the buffer (checked by evaluation), so they cover it. -/
theorem cover0_30 (p0 : Vec F S1x1x128 .f32) (y : S1x1x128.Idx) :
    ∃ pc ∈ ([⟨r0_9, p0⟩] : List (View.Piece (Elt F) S1x1x128 .f32)), y ∈ pc.1.set :=
  View.cover_of_tiled [⟨r0_9, p0⟩] S1x1x128.size (by rfl) y

end Values

/-! ## The body's triple -/

set_option maxHeartbeats 1015550 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x1500x128 .f32) (harg1 : arg1.IsWhole) (arg2 : Memref sig .tc .vmem S1x1500x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S2x128 .f32) (harg11 : arg11.IsWhole) (arg12 : Memref sig .tc .vmem S1x128 .f32) (harg12 : arg12.IsWhole) (arg13 : Memref sig .tc .vmem S513x2 .f32) (harg13 : arg13.IsWhole) (arg14 : Memref sig .tc .vmem S1500x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S128x512 .f32) (harg23 : arg23.IsWhole) (arg24 : Memref sig .tc .vmem S1x512 .f32) (harg24 : arg24.IsWhole) (arg25 : Memref sig .tc .vmem S512x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x1500x128 .f32) (harg29 : arg29.IsWhole) (arg30 : Memref sig .tc .vmem S1x1500x1 .i32) (harg30 : arg30.IsWhole) (arg31 : Memref sig .tc .vmem S1x1x128 .f32) (harg31 : arg31.IsWhole)
    (x0 : Vec F S1x1500x128 .f32) (x1 : Vec F S1x1500x1 .f32) (x2 : Vec F S1x128 .f32) (x3 : Vec F S1x128 .f32) (x4 : Vec F S128x512 .f32) (x5 : Vec F S1x512 .f32) (x6 : Vec F S512x128 .f32) (x7 : Vec F S1x128 .f32) (x8 : Vec F S128x2 .f32) (x9 : Vec F S1x2 .f32) (x10 : Vec F S2x128 .f32) (x11 : Vec F S1x128 .f32) (x12 : Vec F S513x2 .f32) (x13 : Vec F S1500x128 .f32) (x14 : Vec F S1x128 .f32) (x15 : Vec F S1x128 .f32) (x16 : Vec F S128x128 .f32) (x17 : Vec F S128x128 .f32) (x18 : Vec F S128x128 .f32) (x19 : Vec F S128x128 .f32) (x20 : Vec F S1x128 .f32) (x21 : Vec F S1x128 .f32) (x22 : Vec F S128x512 .f32) (x23 : Vec F S1x512 .f32) (x24 : Vec F S512x128 .f32) (x25 : Vec F S1x128 .f32) (x26 : Vec F S1x128 .f32) (x27 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare (out0_28 x0 x1 x2 x3 x4 x5 x6 x7 x8 x9 x10 x11 x12 x13 x14 x15 x16 x17 x18 x19 x20 x21 x22 x23 x24 x25 x26 x27) ∗ owns (c : Thread nD τ) arg30 fullShare (out0_29 x0 x2 x3 x4 x5 x6 x7 x8 x9 x12) ∗ owns (c : Thread nD τ) arg31 fullShare (out0_30 x0 x2 x3 x4 x5 x6 x7 x8 x9 x12)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  iexists _; isplitr
  swap; · iexact H30
  ipureintro
  refine (View.read_writes_eq_canon _ _ _ (cover0_30 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨29, _⟩ => out0_29 (iblk m c 0 t) (iblk m c 2 t) (iblk m c 3 t) (iblk m c 4 t) (iblk m c 5 t) (iblk m c 6 t) (iblk m c 7 t) (iblk m c 8 t) (iblk m c 9 t) (iblk m c 12 t)
    | ⟨30, _⟩ => out0_30 (iblk m c 0 t) (iblk m c 2 t) (iblk m c 3 t) (iblk m c 4 t) (iblk m c 5 t) (iblk m c 6 t) (iblk m c 7 t) (iblk m c 8 t) (iblk m c 9 t) (iblk m c 12 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_29 (c : Dev nD) (t : Fin cfg0.N) : (dats m 0 c).after 29 t = out0_29 (iblk m c 0 t) (iblk m c 2 t) (iblk m c 3 t) (iblk m c 4 t) (iblk m c 5 t) (iblk m c 6 t) (iblk m c 7 t) (iblk m c 8 t) (iblk m c 9 t) (iblk m c 12 t) := by dsimp only [dats]
theorem after0_30 (c : Dev nD) (t : Fin cfg0.N) : (dats m 0 c).after 30 t = out0_30 (iblk m c 0 t) (iblk m c 2 t) (iblk m c 3 t) (iblk m c 4 t) (iblk m c 5 t) (iblk m c 6 t) (iblk m c 7 t) (iblk m c 8 t) (iblk m c 9 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Gen

end
-- ==== Proof.RefOps.lean ====
/-
The reference program as a list of operations. The list is cut where a stage of the mathematics ends, so that each stage can be
evaluated by itself. Of each piece it is recorded what it may write, so that everything computed earlier is known to be kept.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- A piece of the program that touches only tensors, determines all it writes, and writes only the references listed. -/
structure Ok (ops : List (HloOp τ sig (Elt F))) (W : List (Ref sig .tc)) : Prop where
  sub : ops.Forall fun op => op.bufs ⊆ tcRefs τ sig
  fresh : ∀ op ∈ ops, op.fresh = ∅
  writes : ops.Forall fun op => op.writes ⊆ (W.map (Proc.devRef (τ := τ) .tc)).toFinset

namespace Ok

theorem nil : Ok (F := F) [] [] := ⟨trivial, by simp, trivial⟩

theorem cons {op : HloOp τ sig (Elt F)} {ops : List (HloOp τ sig (Elt F))} {y : Ref sig .tc} {W : List (Ref sig .tc)}
    (hb : op.bufs ⊆ tcRefs τ sig) (hf : op.fresh = ∅) (hw : op.writes = {Proc.devRef .tc y}) (h : Ok ops W) : Ok (op :: ops) (y :: W) where
  sub := by rw [List.forall_cons]; exact ⟨hb, h.sub⟩
  fresh := by
    intro o ho
    rcases List.mem_cons.mp ho with rfl | ho
    · exact hf
    · exact h.fresh o ho
  writes := by
    rw [List.forall_cons]
    refine ⟨?_, h.writes.imp fun o ho => ho.trans ?_⟩
    · rw [hw]; simp
    · intro b hb
      simp only [List.map_cons, List.toFinset_cons, Finset.mem_insert]
      exact Or.inr hb

theorem append {o₁ o₂ : List (HloOp τ sig (Elt F))} {W₁ W₂ : List (Ref sig .tc)} (h₁ : Ok o₁ W₁) (h₂ : Ok o₂ W₂) :
    Ok (o₁ ++ o₂) (W₁ ++ W₂) where
  sub := List.forall_append.mpr ⟨h₁.sub, h₂.sub⟩
  fresh o ho := (List.mem_append.mp ho).elim (h₁.fresh o) (h₂.fresh o)
  writes := by
    refine List.forall_append.mpr ⟨h₁.writes.imp fun o ho => ho.trans ?_, h₂.writes.imp fun o ho => ho.trans ?_⟩
    · intro b hb; simp only [List.map_append, List.toFinset_append, Finset.mem_union]; exact Or.inl hb
    · intro b hb; simp only [List.map_append, List.toFinset_append, Finset.mem_union]; exact Or.inr hb

theorem keep {ops : List (HloOp τ sig (Elt F))} {W : List (Ref sig .tc)} (h : Ok ops W) (V : Valuation τ sig (Elt F)) {r : Ref sig .tc}
    (hr : r ∉ W) : after ops V (Proc.devRef .tc r) = V (Proc.devRef .tc r) :=
  after_of_writes_sub ops V h.writes hr

end Ok

/-- The first layer norm. -/
def wA : List (HloOp τ sig (Elt F)) :=
  [ nullary main_cst (constant S_ .f32 0x00000000#32)
  , binary main_arg0 main_cst main_v0 ((fun x v => Host.reduceAdd x v reducesTo_S8x1500x128_S8x1500_d2 h_S_))
  , unary main_v0 main_v1 (broadcastInDim S8x1500x1 ![0, 1] bcast_S8x1500_S8x1500x1_0_1)
  , nullary main_cst_0 (constant S_ .f32 0x43000000#32)
  , unary main_cst_0 main_v2 (broadcastInDim S8x1500x1 ![] bcast_S_S8x1500x1)
  , binary main_v1 main_v2 main_v3 (Host.divf)
  , nullary main_c (constantI S_ 32 0#32)
  , nullary main_call0_cst (constant S_ .f32 0x00000000#32)
  , binary main_arg0 main_call0_cst main_call0_v0 (fun x v => Host.reduceAdd x v reducesTo_S8x1500x128_S8x1500_d2 h_S_)
  , unary main_call0_v0 main_call0_v1 (broadcastInDim S8x1500x1 ![0, 1] bcast_S8x1500_S8x1500x1_0_1)
  , nullary main_call0_cst_0 (constant S_ .f32 0x43000000#32)
  , unary main_call0_cst_0 main_call0_v2 (broadcastInDim S8x1500x1 ![] bcast_S_S8x1500x1)
  , binary main_call0_v1 main_call0_v2 main_call0_v3 Host.divf
  , unary main_call0_v3 main_call0_v4 (broadcastInDim S8x1500x128 ![0, 1, 2] bcast_S8x1500x1_S8x1500x128_0_1_2)
  , binary main_arg0 main_call0_v4 main_call0_v5 subf
  , binary main_call0_v5 main_call0_v5 main_call0_v6 mulf
  , unary main_c main_call0_v7 (sitofp .f32)
  , nullary main_call0_cst_1 (constant S_ .f32 0x43000000#32)
  , binary main_call0_cst_1 main_call0_v7 main_call0_v8 subf
  , nullary main_call0_cst_2 (constant S_ .f32 0x00000000#32)
  , binary main_call0_v6 main_call0_cst_2 main_call0_v9 (fun x v => Host.reduceAdd x v reducesTo_S8x1500x128_S8x1500_d2 h_S_)
  , unary main_call0_v9 main_call0_v10 (broadcastInDim S8x1500x1 ![0, 1] bcast_S8x1500_S8x1500x1_0_1)
  , unary main_call0_v8 main_call0_v11 (broadcastInDim S8x1500x1 ![] bcast_S_S8x1500x1)
  , binary main_call0_v10 main_call0_v11 main_call0_v12 Host.divf
  , nullary main_call0_cst_3 (constant S_ .f32 0x00000000#32)
  , binary main_call0_v8 main_call0_cst_3 main_call0_v13 (cmpf .ogt)
  , nullary main_call0_cst_4 (constant S_ .f32 0x7FC00000#32)
  , unary main_call0_cst_4 main_call0_call0_v0 id
  , unary main_call0_call0_v0 main_call0_call0_v1 (broadcastInDim S8x1500x1 ![] bcast_S_S8x1500x1)
  , ternary main_call0_v13 main_call0_v12 main_call0_call0_v1 main_v4 (fun p a b => select (broadcastInDim S8x1500x1 ![] bcast_S_S8x1500x1 p) a b)
  , unary main_v3 main_v5 (broadcastInDim S8x1500x128 ![0, 1, 2] bcast_S8x1500x1_S8x1500x128_0_1_2)
  , binary main_arg0 main_v5 main_v6 (subf)
  , nullary main_cst_1 (constant S_ .f32 0x3727C5AC#32)
  , unary main_cst_1 main_v7 (broadcastInDim S8x1500x1 ![] bcast_S_S8x1500x1)
  , binary main_v4 main_v7 main_v8 (addf)
  , unary main_v8 main_v9 (Host.sqrt)
  , unary main_v9 main_v10 (broadcastInDim S8x1500x128 ![0, 1, 2] bcast_S8x1500x1_S8x1500x128_0_1_2)
  , binary main_v6 main_v10 main_v11 (Host.divf)
  , unary main_arg2 main_v12 (broadcastInDim S1x1x128 ![2] bcast_S128_S1x1x128_2)
  , unary main_v12 main_v13 (broadcastInDim S8x1500x128 ![0, 1, 2] bcast_S1x1x128_S8x1500x128_0_1_2)
  , binary main_v11 main_v13 main_v14 (mulf)
  , unary main_arg3 main_v15 (broadcastInDim S1x1x128 ![2] bcast_S128_S1x1x128_2)
  , unary main_v15 main_v16 (broadcastInDim S8x1500x128 ![0, 1, 2] bcast_S1x1x128_S8x1500x128_0_1_2)
  , binary main_v14 main_v16 main_v17 (addf) ]

/-- What `wA` writes. -/
abbrev wA_W : List (Ref sig .tc) :=
  [main_cst, main_v0, main_v1, main_cst_0, main_v2, main_v3, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4, main_v5, main_v6, main_cst_1, main_v7, main_v8, main_v9, main_v10, main_v11, main_v12, main_v13, main_v14, main_v15, main_v16, main_v17]

theorem wA_ok : Ok (F := F) wA wA_W :=
  .cons (nullary_bufs_sub ..) rfl rfl <| .cons (binary_bufs_sub ..) rfl rfl <| .cons (unary_bufs_sub ..) rfl rfl <|
  .cons (nullary_bufs_sub ..) rfl rfl <| .cons (unary_bufs_sub ..) rfl rfl <| .cons (binary_bufs_sub ..) rfl rfl <|
  .cons (nullary_bufs_sub ..) rfl rfl <| .cons (nullary_bufs_sub ..) rfl rfl <| .cons (binary_bufs_sub ..) rfl rfl <|
  .cons (unary_bufs_sub ..) rfl rfl <| .cons (nullary_bufs_sub ..) rfl rfl <| .cons (unary_bufs_sub ..) rfl rfl <|
  .cons (binary_bufs_sub ..) rfl rfl <| .cons (unary_bufs_sub ..) rfl rfl <| .cons (binary_bufs_sub ..) rfl rfl <|
  .cons (binary_bufs_sub ..) rfl rfl <| .cons (unary_bufs_sub ..) rfl rfl <| .cons (nullary_bufs_sub ..) rfl rfl <|
  .cons (binary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <|
  .cons (nullary_bufs_sub ..) rfl rfl <| .cons (binary_bufs_sub ..) rfl rfl <| .cons (nullary_bufs_sub ..) rfl rfl <|
  .cons (unary_bufs_sub ..) rfl rfl <| .cons (unary_bufs_sub ..) rfl rfl <| .cons (ternary_bufs_sub ..) rfl rfl <|
  .cons (unary_bufs_sub ..) rfl rfl <| .cons (binary_bufs_sub ..) rfl rfl <| .cons (nullary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .nil

/-- The first dense layer and its gelu. -/
def wB : List (HloOp τ sig (Elt F)) :=
  [ binary main_v17 main_arg4 main_v18 ((fun l r => Host.dotGeneral dot_S8x1500x128_S128x512_S8x1500x512_2_0_01_1_n_n none l r))
  , unary main_arg5 main_v19 (broadcastInDim S1x1x512 ![2] bcast_S512_S1x1x512_2)
  , unary main_v19 main_v20 (broadcastInDim S8x1500x512 ![0, 1, 2] bcast_S1x1x512_S8x1500x512_0_1_2)
  , binary main_v18 main_v20 main_v21 (addf)
  , nullary main_cst_2 (constant S_ .f32 0x3F000000#32)
  , unary main_cst_2 main_v22 (broadcastInDim S8x1500x512 ![] bcast_S_S8x1500x512)
  , binary main_v22 main_v21 main_v23 (mulf)
  , binary main_v21 main_v21 main_v24 (mulf)
  , binary main_v24 main_v21 main_v25 (mulf)
  , nullary main_cst_3 (constant S_ .f32 0x3D372713#32)
  , unary main_cst_3 main_v26 (broadcastInDim S8x1500x512 ![] bcast_S_S8x1500x512)
  , binary main_v26 main_v25 main_v27 (mulf)
  , binary main_v21 main_v27 main_v28 (addf)
  , nullary main_cst_4 (constant S_ .f32 0x3F4C422A#32)
  , unary main_cst_4 main_v29 (broadcastInDim S8x1500x512 ![] bcast_S_S8x1500x512)
  , binary main_v29 main_v28 main_v30 (mulf)
  , unary main_v30 main_v31 (Host.tanh)
  , nullary main_cst_5 (constant S_ .f32 0x3F800000#32)
  , unary main_cst_5 main_v32 (broadcastInDim S8x1500x512 ![] bcast_S_S8x1500x512)
  , binary main_v32 main_v31 main_v33 (addf)
  , binary main_v23 main_v33 main_v34 (mulf) ]

/-- What `wB` writes. -/
abbrev wB_W : List (Ref sig .tc) :=
  [main_v18, main_v19, main_v20, main_v21, main_cst_2, main_v22, main_v23, main_v24, main_v25, main_cst_3, main_v26, main_v27, main_v28, main_cst_4, main_v29, main_v30, main_v31, main_cst_5, main_v32, main_v33, main_v34]

theorem wB_ok : Ok (F := F) wB wB_W :=
  .cons (binary_bufs_sub ..) rfl rfl <| .cons (unary_bufs_sub ..) rfl rfl <| .cons (unary_bufs_sub ..) rfl rfl <|
  .cons (binary_bufs_sub ..) rfl rfl <| .cons (nullary_bufs_sub ..) rfl rfl <| .cons (unary_bufs_sub ..) rfl rfl <|
  .cons (binary_bufs_sub ..) rfl rfl <| .cons (binary_bufs_sub ..) rfl rfl <| .cons (binary_bufs_sub ..) rfl rfl <|
  .cons (nullary_bufs_sub ..) rfl rfl <| .cons (unary_bufs_sub ..) rfl rfl <| .cons (binary_bufs_sub ..) rfl rfl <|
  .cons (binary_bufs_sub ..) rfl rfl <| .cons (nullary_bufs_sub ..) rfl rfl <| .cons (unary_bufs_sub ..) rfl rfl <|
  .cons (binary_bufs_sub ..) rfl rfl <| .cons (unary_bufs_sub ..) rfl rfl <| .cons (nullary_bufs_sub ..) rfl rfl <|
  .cons (unary_bufs_sub ..) rfl rfl <| .cons (binary_bufs_sub ..) rfl rfl <| .cons (binary_bufs_sub ..) rfl rfl <| .nil

/-- The second dense layer, the residual, and the projection into the codebook space. -/
def wC : List (HloOp τ sig (Elt F)) :=
  [ binary main_v34 main_arg6 main_v35 ((fun l r => Host.dotGeneral dot_S8x1500x512_S512x128_S8x1500x128_2_0_01_1_n_n none l r))
  , unary main_arg7 main_v36 (broadcastInDim S1x1x128 ![2] bcast_S128_S1x1x128_2)
  , unary main_v36 main_v37 (broadcastInDim S8x1500x128 ![0, 1, 2] bcast_S1x1x128_S8x1500x128_0_1_2)
  , binary main_v35 main_v37 main_v38 (addf)
  , binary main_arg0 main_v38 main_v39 (addf)
  , binary main_v39 main_arg8 main_v40 ((fun l r => Host.dotGeneral dot_S8x1500x128_S128x2_S8x1500x2_2_0_01_1_n_n none l r))
  , unary main_arg9 main_v41 (broadcastInDim S1x1x2 ![2] bcast_S2_S1x1x2_2)
  , unary main_v41 main_v42 (broadcastInDim S8x1500x2 ![0, 1, 2] bcast_S1x1x2_S8x1500x2_0_1_2)
  , binary main_v40 main_v42 main_v43 (addf) ]

/-- What `wC` writes. -/
abbrev wC_W : List (Ref sig .tc) :=
  [main_v35, main_v36, main_v37, main_v38, main_v39, main_v40, main_v41, main_v42, main_v43]

theorem wC_ok : Ok (F := F) wC wC_W :=
  .cons (binary_bufs_sub ..) rfl rfl <| .cons (unary_bufs_sub ..) rfl rfl <| .cons (unary_bufs_sub ..) rfl rfl <|
  .cons (binary_bufs_sub ..) rfl rfl <| .cons (binary_bufs_sub ..) rfl rfl <| .cons (binary_bufs_sub ..) rfl rfl <|
  .cons (unary_bufs_sub ..) rfl rfl <| .cons (unary_bufs_sub ..) rfl rfl <| .cons (binary_bufs_sub ..) rfl rfl <| .nil

/-- The squared norms and the products with the codebook. -/
def wD0 : List (HloOp τ sig (Elt F)) :=
  [ binary main_v43 main_v43 main_v44 (mulf)
  , nullary main_cst_6 (constant S_ .f32 0x00000000#32)
  , binary main_v44 main_cst_6 main_v45 ((fun x v => Host.reduceAdd x v reducesTo_S8x1500x2_S8x1500_d2 h_S_))
  , unary main_v45 main_v46 (broadcastInDim S8x1500x1 ![0, 1] bcast_S8x1500_S8x1500x1_0_1)
  , unary main_arg12 main_v47 ((transpose S2x513 [1, 0] · transposes_S513x2_S2x513_1_0))
  , binary main_v43 main_v47 main_v48 ((fun l r => Host.dotGeneral dot_S8x1500x2_S2x513_S8x1500x513_2_0_01_1_n_n none l r))
  , nullary main_cst_7 (constant S_ .f32 0x40000000#32)
  , unary main_cst_7 main_v49 (broadcastInDim S8x1500x513 ![] bcast_S_S8x1500x513) ]

/-- What `wD0` writes. -/
abbrev wD0_W : List (Ref sig .tc) :=
  [main_v44, main_cst_6, main_v45, main_v46, main_v47, main_v48, main_cst_7, main_v49]

theorem wD0_ok : Ok (F := F) wD0 wD0_W :=
  .cons (binary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <|
  .cons (nullary_bufs_sub ..) rfl rfl <| .cons (unary_bufs_sub ..) rfl rfl <| .nil

/-- The distances to the codebook rows. -/
def wD1 : List (HloOp τ sig (Elt F)) :=
  [ binary main_v49 main_v48 main_v50 (mulf)
  , unary main_v46 main_v51 (broadcastInDim S8x1500x513 ![0, 1, 2] bcast_S8x1500x1_S8x1500x513_0_1_2)
  , binary main_v51 main_v50 main_v52 (subf)
  , binary main_arg12 main_arg12 main_v53 (mulf)
  , nullary main_cst_8 (constant S_ .f32 0x00000000#32)
  , binary main_v53 main_cst_8 main_v54 ((fun x v => Host.reduceAdd x v reducesTo_S513x2_S513_d1 h_S_))
  , unary main_v54 main_v55 (broadcastInDim S1x1x513 ![2] bcast_S513_S1x1x513_2)
  , unary main_v55 main_v56 (broadcastInDim S8x1500x513 ![0, 1, 2] bcast_S1x1x513_S8x1500x513_0_1_2)
  , binary main_v52 main_v56 main_v57 (addf) ]

/-- What `wD1` writes. -/
abbrev wD1_W : List (Ref sig .tc) :=
  [main_v50, main_v51, main_v52, main_v53, main_cst_8, main_v54, main_v55, main_v56, main_v57]

theorem wD1_ok : Ok (F := F) wD1 wD1_W :=
  .cons (binary_bufs_sub ..) rfl rfl <| .cons (unary_bufs_sub ..) rfl rfl <| .cons (binary_bufs_sub ..) rfl rfl <|
  .cons (binary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <| .nil

/-- The nearest codebook row (its number). -/
def wE : List (HloOp τ sig (Elt F)) :=
  [ nullary main_call1_v0 (iotaInDim S8x1500x513 32 2)
  , nullary main_call1_cst (constant S_ .f32 0x7F800000#32)
  , nullary main_call1_c (constantI S_ 32 0#32)
  , quaternary main_v57 main_call1_v0 main_call1_cst main_call1_c main_call1_v1_0 (fun x y u v j => (Host.argReduce reducer_argmin_f32_i32 x y u v reducesTo_S8x1500x513_S8x1500_d2 h_S_ j).1)
  , quaternary main_v57 main_call1_v0 main_call1_cst main_call1_c main_v58 (fun x y u v j => (Host.argReduce reducer_argmin_f32_i32 x y u v reducesTo_S8x1500x513_S8x1500_d2 h_S_ j).2) ]

/-- What `wE` writes. -/
abbrev wE_W : List (Ref sig .tc) :=
  [main_call1_v0, main_call1_cst, main_call1_c, main_call1_v1_0, main_v58]

theorem wE_ok : Ok (F := F) wE wE_W :=
  .cons (nullary_bufs_sub ..) rfl rfl <| .cons (nullary_bufs_sub ..) rfl rfl <| .cons (nullary_bufs_sub ..) rfl rfl <|
  .cons (quaternary_bufs_sub ..) rfl rfl <| .cons (quaternary_bufs_sub ..) rfl rfl <| .nil

/-- The codebook row of that number. -/
def wF : List (HloOp τ sig (Elt F)) :=
  [ nullary main_call2_c (constantI S_ 32 0#32)
  , unary main_call2_c main_call2_v0 (broadcastInDim S8x1500 ![] bcast_S_S8x1500)
  , binary main_v58 main_call2_v0 main_call2_v1 (cmpi .slt)
  , nullary main_call2_c_0 (constantI S_ 32 513#32)
  , unary main_call2_c_0 main_call2_v2 (broadcastInDim S8x1500 ![] bcast_S_S8x1500)
  , binary main_v58 main_call2_v2 main_call2_v3 addi
  , ternary main_call2_v1 main_call2_v3 main_v58 main_call2_v4 select
  , unary main_call2_v4 main_call2_v5 (broadcastInDim S8x1500x1 ![0, 1] bcast_S8x1500_S8x1500x1_0_1)
  , nullary main_call2_c_1 (constantI S1 32 512#32)
  , nullary main_call2_c_2 (constantI S_ 32 0#32)
  , unary main_call2_c_2 main_call2_v6 (broadcastInDim S8x1500x1 ![] bcast_S_S8x1500x1)
  , binary main_call2_v5 main_call2_v6 main_call2_v7 (cmpi .sge)
  , unary main_call2_c_1 main_call2_v8 (broadcastInDim S1x1x1 ![2] bcast_S1_S1x1x1_2)
  , unary main_call2_v8 main_call2_v9 (broadcastInDim S8x1500x1 ![0, 1, 2] bcast_S1x1x1_S8x1500x1_0_1_2)
  , binary main_call2_v5 main_call2_v9 main_call2_v10 (cmpi .sle)
  , binary main_call2_v7 main_call2_v10 main_call2_v11 andi
  , nullary main_call2_c_3 (constantI S_ 1 1#1)
  , binary main_call2_v11 main_call2_c_3 main_call2_v12 (fun x v => Host.reduce IntOp.andi x v reducesTo_S8x1500x1_S8x1500_d2 h_S_)
  , binary main_arg12 main_call2_v5 main_call2_v13 (fun x i => Host.gather gather_S513x2_S8x1500x1_S8x1500x2_2_0_n_n_0_2_12 x i)
  , unary main_call2_v12 main_call2_v14 (broadcastInDim S8x1500x2 ![0, 1] bcast_S8x1500_S8x1500x2_0_1)
  , nullary main_call2_cst (constant S_ .f32 0x7FC00000#32)
  , unary main_call2_cst main_call2_v15 (broadcastInDim S8x1500x2 ![] bcast_S_S8x1500x2)
  , ternary main_call2_v14 main_call2_v13 main_call2_v15 main_v59 select ]

/-- What `wF` writes. -/
abbrev wF_W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v59]

theorem wF_ok : Ok (F := F) wF wF_W :=
  .cons (nullary_bufs_sub ..) rfl rfl <| .cons (unary_bufs_sub ..) rfl rfl <| .cons (binary_bufs_sub ..) rfl rfl <|
  .cons (nullary_bufs_sub ..) rfl rfl <| .cons (unary_bufs_sub ..) rfl rfl <| .cons (binary_bufs_sub ..) rfl rfl <|
  .cons (ternary_bufs_sub ..) rfl rfl <| .cons (unary_bufs_sub ..) rfl rfl <| .cons (nullary_bufs_sub ..) rfl rfl <|
  .cons (nullary_bufs_sub ..) rfl rfl <| .cons (unary_bufs_sub ..) rfl rfl <| .cons (binary_bufs_sub ..) rfl rfl <|
  .cons (unary_bufs_sub ..) rfl rfl <| .cons (unary_bufs_sub ..) rfl rfl <| .cons (binary_bufs_sub ..) rfl rfl <|
  .cons (binary_bufs_sub ..) rfl rfl <| .cons (nullary_bufs_sub ..) rfl rfl <| .cons (binary_bufs_sub ..) rfl rfl <|
  .cons (binary_bufs_sub ..) rfl rfl <| .cons (unary_bufs_sub ..) rfl rfl <| .cons (nullary_bufs_sub ..) rfl rfl <|
  .cons (unary_bufs_sub ..) rfl rfl <| .cons (ternary_bufs_sub ..) rfl rfl <| .nil

/-- The commitment loss and the straight-through estimate. -/
def wG : List (HloOp τ sig (Elt F)) :=
  [ binary main_v59 main_v43 main_v60 (subf)
  , binary main_v60 main_v60 main_v61 (mulf)
  , nullary main_cst_9 (constant S_ .f32 0x00000000#32)
  , binary main_v61 main_cst_9 main_v62 ((fun x v => Host.reduceAdd x v reducesTo_S8x1500x2_S_d0_1_2 h_S_))
  , nullary main_cst_10 (constant S_ .f32 0x46BB8000#32)
  , binary main_v62 main_cst_10 main_v63 (Host.divf)
  , binary main_v59 main_v43 main_v64 (subf)
  , binary main_v43 main_v64 main_v65 (addf) ]

/-- What `wG` writes. -/
abbrev wG_W : List (Ref sig .tc) :=
  [main_v60, main_v61, main_cst_9, main_v62, main_cst_10, main_v63, main_v64, main_v65]

theorem wG_ok : Ok (F := F) wG wG_W :=
  .cons (binary_bufs_sub ..) rfl rfl <| .cons (binary_bufs_sub ..) rfl rfl <| .cons (nullary_bufs_sub ..) rfl rfl <|
  .cons (binary_bufs_sub ..) rfl rfl <| .cons (nullary_bufs_sub ..) rfl rfl <| .cons (binary_bufs_sub ..) rfl rfl <|
  .cons (binary_bufs_sub ..) rfl rfl <| .cons (binary_bufs_sub ..) rfl rfl <| .nil

/-- The projection out of the codebook space, the mask, and the positions. -/
def wH : List (HloOp τ sig (Elt F)) :=
  [ binary main_v65 main_arg10 main_v66 ((fun l r => Host.dotGeneral dot_S8x1500x2_S2x128_S8x1500x128_2_0_01_1_n_n none l r))
  , unary main_arg11 main_v67 (broadcastInDim S1x1x128 ![2] bcast_S128_S1x1x128_2)
  , unary main_v67 main_v68 (broadcastInDim S8x1500x128 ![0, 1, 2] bcast_S1x1x128_S8x1500x128_0_1_2)
  , binary main_v66 main_v68 main_v69 (addf)
  , unary main_arg12 main_v70 ((extractStridedSlice S1x2 ![512, 0] · slices_S513x2_S1x2_512_0))
  , reshape main_v70 main_v71 (rfl : (.f32 : EltTy) = .f32) shapeCasts_S1x2_S2
  , binary main_v71 main_arg10 main_v72 ((fun l r => Host.dotGeneral dot_S2_S2x128_S128_0_0_n_1_n_n none l r))
  , binary main_v72 main_arg11 main_v73 (addf)
  , unary main_arg1 main_v74 (broadcastInDim S8x1500x1 ![0, 1] bcast_S8x1500_S8x1500x1_0_1)
  , unary main_v74 main_call3_v0 (broadcastInDim S8x1500x128 ![0, 1, 2] bcast_S8x1500x1_S8x1500x128_0_1_2)
  , unary main_v73 main_call3_v1 (broadcastInDim S8x1500x128 ![2] bcast_S128_S8x1500x128_2)
  , ternary main_call3_v0 main_v69 main_call3_v1 main_v75 select
  , unary main_arg13 main_v76 (broadcastInDim S1x1500x128 ![1, 2] bcast_S1500x128_S1x1500x128_1_2)
  , unary main_v76 main_v77 (broadcastInDim S8x1500x128 ![0, 1, 2] bcast_S1x1500x128_S8x1500x128_0_1_2)
  , binary main_v75 main_v77 main_v78 (addf) ]

/-- What `wH` writes. -/
abbrev wH_W : List (Ref sig .tc) :=
  [main_v66, main_v67, main_v68, main_v69, main_v70, main_v71, main_v72, main_v73, main_v74, main_call3_v0, main_call3_v1, main_v75, main_v76, main_v77, main_v78]

theorem wH_ok : Ok (F := F) wH wH_W :=
  .cons (binary_bufs_sub ..) rfl rfl <| .cons (unary_bufs_sub ..) rfl rfl <| .cons (unary_bufs_sub ..) rfl rfl <|
  .cons (binary_bufs_sub ..) rfl rfl <| .cons (unary_bufs_sub ..) rfl rfl <| .cons (reshape_bufs_sub ..) rfl rfl <|
  .cons (binary_bufs_sub ..) rfl rfl <| .cons (binary_bufs_sub ..) rfl rfl <| .cons (unary_bufs_sub ..) rfl rfl <|
  .cons (unary_bufs_sub ..) rfl rfl <| .cons (unary_bufs_sub ..) rfl rfl <| .cons (ternary_bufs_sub ..) rfl rfl <|
  .cons (unary_bufs_sub ..) rfl rfl <| .cons (unary_bufs_sub ..) rfl rfl <| .cons (binary_bufs_sub ..) rfl rfl <| .nil

/-- The layer norm before the attention. -/
def wI : List (HloOp τ sig (Elt F)) :=
  [ nullary main_cst_11 (constant S_ .f32 0x00000000#32)
  , binary main_v78 main_cst_11 main_v79 ((fun x v => Host.reduceAdd x v reducesTo_S8x1500x128_S8x1500_d2 h_S_))
  , unary main_v79 main_v80 (broadcastInDim S8x1500x1 ![0, 1] bcast_S8x1500_S8x1500x1_0_1)
  , nullary main_cst_12 (constant S_ .f32 0x43000000#32)
  , unary main_cst_12 main_v81 (broadcastInDim S8x1500x1 ![] bcast_S_S8x1500x1)
  , binary main_v80 main_v81 main_v82 (Host.divf)
  , nullary main_c_13 (constantI S_ 32 0#32)
  , nullary main_call4_cst (constant S_ .f32 0x00000000#32)
  , binary main_v78 main_call4_cst main_call4_v0 (fun x v => Host.reduceAdd x v reducesTo_S8x1500x128_S8x1500_d2 h_S_)
  , unary main_call4_v0 main_call4_v1 (broadcastInDim S8x1500x1 ![0, 1] bcast_S8x1500_S8x1500x1_0_1)
  , nullary main_call4_cst_0 (constant S_ .f32 0x43000000#32)
  , unary main_call4_cst_0 main_call4_v2 (broadcastInDim S8x1500x1 ![] bcast_S_S8x1500x1)
  , binary main_call4_v1 main_call4_v2 main_call4_v3 Host.divf
  , unary main_call4_v3 main_call4_v4 (broadcastInDim S8x1500x128 ![0, 1, 2] bcast_S8x1500x1_S8x1500x128_0_1_2)
  , binary main_v78 main_call4_v4 main_call4_v5 subf
  , binary main_call4_v5 main_call4_v5 main_call4_v6 mulf
  , unary main_c_13 main_call4_v7 (sitofp .f32)
  , nullary main_call4_cst_1 (constant S_ .f32 0x43000000#32)
  , binary main_call4_cst_1 main_call4_v7 main_call4_v8 subf
  , nullary main_call4_cst_2 (constant S_ .f32 0x00000000#32)
  , binary main_call4_v6 main_call4_cst_2 main_call4_v9 (fun x v => Host.reduceAdd x v reducesTo_S8x1500x128_S8x1500_d2 h_S_)
  , unary main_call4_v9 main_call4_v10 (broadcastInDim S8x1500x1 ![0, 1] bcast_S8x1500_S8x1500x1_0_1)
  , unary main_call4_v8 main_call4_v11 (broadcastInDim S8x1500x1 ![] bcast_S_S8x1500x1)
  , binary main_call4_v10 main_call4_v11 main_call4_v12 Host.divf
  , nullary main_call4_cst_3 (constant S_ .f32 0x00000000#32)
  , binary main_call4_v8 main_call4_cst_3 main_call4_v13 (cmpf .ogt)
  , nullary main_call4_cst_4 (constant S_ .f32 0x7FC00000#32)
  , unary main_call4_cst_4 main_call4_call0_v0 id
  , unary main_call4_call0_v0 main_call4_call0_v1 (broadcastInDim S8x1500x1 ![] bcast_S_S8x1500x1)
  , ternary main_call4_v13 main_call4_v12 main_call4_call0_v1 main_v83 (fun p a b => select (broadcastInDim S8x1500x1 ![] bcast_S_S8x1500x1 p) a b)
  , unary main_v82 main_v84 (broadcastInDim S8x1500x128 ![0, 1, 2] bcast_S8x1500x1_S8x1500x128_0_1_2)
  , binary main_v78 main_v84 main_v85 (subf)
  , nullary main_cst_14 (constant S_ .f32 0x3727C5AC#32)
  , unary main_cst_14 main_v86 (broadcastInDim S8x1500x1 ![] bcast_S_S8x1500x1)
  , binary main_v83 main_v86 main_v87 (addf)
  , unary main_v87 main_v88 (Host.sqrt)
  , unary main_v88 main_v89 (broadcastInDim S8x1500x128 ![0, 1, 2] bcast_S8x1500x1_S8x1500x128_0_1_2)
  , binary main_v85 main_v89 main_v90 (Host.divf)
  , unary main_arg14 main_v91 (broadcastInDim S1x1x128 ![2] bcast_S128_S1x1x128_2)
  , unary main_v91 main_v92 (broadcastInDim S8x1500x128 ![0, 1, 2] bcast_S1x1x128_S8x1500x128_0_1_2)
  , binary main_v90 main_v92 main_v93 (mulf)
  , unary main_arg15 main_v94 (broadcastInDim S1x1x128 ![2] bcast_S128_S1x1x128_2)
  , unary main_v94 main_v95 (broadcastInDim S8x1500x128 ![0, 1, 2] bcast_S1x1x128_S8x1500x128_0_1_2)
  , binary main_v93 main_v95 main_v96 (addf) ]

/-- What `wI` writes. -/
abbrev wI_W : List (Ref sig .tc) :=
  [main_cst_11, main_v79, main_v80, main_cst_12, main_v81, main_v82, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v83, main_v84, main_v85, main_cst_14, main_v86, main_v87, main_v88, main_v89, main_v90, main_v91, main_v92, main_v93, main_v94, main_v95, main_v96]

theorem wI_ok : Ok (F := F) wI wI_W :=
  .cons (nullary_bufs_sub ..) rfl rfl <| .cons (binary_bufs_sub ..) rfl rfl <| .cons (unary_bufs_sub ..) rfl rfl <|
  .cons (nullary_bufs_sub ..) rfl rfl <| .cons (unary_bufs_sub ..) rfl rfl <| .cons (binary_bufs_sub ..) rfl rfl <|
  .cons (nullary_bufs_sub ..) rfl rfl <| .cons (nullary_bufs_sub ..) rfl rfl <| .cons (binary_bufs_sub ..) rfl rfl <|
  .cons (unary_bufs_sub ..) rfl rfl <| .cons (nullary_bufs_sub ..) rfl rfl <| .cons (unary_bufs_sub ..) rfl rfl <|
  .cons (binary_bufs_sub ..) rfl rfl <| .cons (unary_bufs_sub ..) rfl rfl <| .cons (binary_bufs_sub ..) rfl rfl <|
  .cons (binary_bufs_sub ..) rfl rfl <| .cons (unary_bufs_sub ..) rfl rfl <| .cons (nullary_bufs_sub ..) rfl rfl <|
  .cons (binary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <|
  .cons (nullary_bufs_sub ..) rfl rfl <| .cons (binary_bufs_sub ..) rfl rfl <| .cons (nullary_bufs_sub ..) rfl rfl <|
  .cons (unary_bufs_sub ..) rfl rfl <| .cons (unary_bufs_sub ..) rfl rfl <| .cons (ternary_bufs_sub ..) rfl rfl <|
  .cons (unary_bufs_sub ..) rfl rfl <| .cons (binary_bufs_sub ..) rfl rfl <| .cons (nullary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .nil

/-- The queries and the keys. -/
def wJ0 : List (HloOp τ sig (Elt F)) :=
  [ binary main_v96 main_arg16 main_v97 ((fun l r => Host.dotGeneral dot_S8x1500x128_S128x128_S8x1500x128_2_0_01_1_n_n none l r))
  , reshape main_v97 main_v98 (rfl : (.f32 : EltTy) = .f32) shapeCasts_S8x1500x128_S8x1500x2x64
  , unary main_v98 main_v99 ((transpose S8x2x1500x64 [0, 2, 1, 3] · transposes_S8x1500x2x64_S8x2x1500x64_0_2_1_3))
  , binary main_v96 main_arg17 main_v100 ((fun l r => Host.dotGeneral dot_S8x1500x128_S128x128_S8x1500x128_2_0_01_1_n_n none l r))
  , reshape main_v100 main_v101 (rfl : (.f32 : EltTy) = .f32) shapeCasts_S8x1500x128_S8x1500x2x64
  , unary main_v101 main_v102 ((transpose S8x2x1500x64 [0, 2, 1, 3] · transposes_S8x1500x2x64_S8x2x1500x64_0_2_1_3)) ]

/-- What `wJ0` writes. -/
abbrev wJ0_W : List (Ref sig .tc) :=
  [main_v97, main_v98, main_v99, main_v100, main_v101, main_v102]

theorem wJ0_ok : Ok (F := F) wJ0 wJ0_W :=
  .cons (binary_bufs_sub ..) rfl rfl <| .cons (reshape_bufs_sub ..) rfl rfl <| .cons (unary_bufs_sub ..) rfl rfl <|
  .cons (binary_bufs_sub ..) rfl rfl <| .cons (reshape_bufs_sub ..) rfl rfl <| .cons (unary_bufs_sub ..) rfl rfl <| .nil

/-- The values. -/
def wJ1 : List (HloOp τ sig (Elt F)) :=
  [ binary main_v96 main_arg18 main_v103 ((fun l r => Host.dotGeneral dot_S8x1500x128_S128x128_S8x1500x128_2_0_01_1_n_n none l r))
  , reshape main_v103 main_v104 (rfl : (.f32 : EltTy) = .f32) shapeCasts_S8x1500x128_S8x1500x2x64
  , unary main_v104 main_v105 ((transpose S8x2x1500x64 [0, 2, 1, 3] · transposes_S8x1500x2x64_S8x2x1500x64_0_2_1_3)) ]

/-- What `wJ1` writes. -/
abbrev wJ1_W : List (Ref sig .tc) :=
  [main_v103, main_v104, main_v105]

theorem wJ1_ok : Ok (F := F) wJ1 wJ1_W :=
  .cons (binary_bufs_sub ..) rfl rfl <| .cons (reshape_bufs_sub ..) rfl rfl <| .cons (unary_bufs_sub ..) rfl rfl <| .nil

/-- The softmax of the scaled scores. -/
def wK : List (HloOp τ sig (Elt F)) :=
  [ binary main_v99 main_v102 main_v106 ((fun l r => Host.dotGeneral dot_S8x2x1500x64_S8x2x1500x64_S8x2x1500x1500_3_3_2_2_01_01 none l r))
  , nullary main_cst_15 (constant S_ .f32 0x3E000000#32)
  , unary main_cst_15 main_v107 (broadcastInDim S8x2x1500x1500 ![] bcast_S_S8x2x1500x1500)
  , binary main_v106 main_v107 main_v108 (mulf)
  , nullary main_cst_16 (constant S_ .f32 0xFF800000#32)
  , binary main_v108 main_cst_16 main_v109 ((fun x v => Host.reduce FloatOps.maximumf x v reducesTo_S8x2x1500x1500_S8x2x1500_d3 h_S_))
  , nullary main_cst_17 (constant S_ .f32 0xFF800000#32)
  , unary main_cst_17 main_v110 (broadcastInDim S8x2x1500 ![] bcast_S_S8x2x1500)
  , binary main_v110 main_v109 main_v111 (maximumf)
  , unary main_v111 main_v112 (broadcastInDim S8x2x1500x1 ![0, 1, 2] bcast_S8x2x1500_S8x2x1500x1_0_1_2)
  , unary main_v112 main_v113 (broadcastInDim S8x2x1500x1500 ![0, 1, 2, 3] bcast_S8x2x1500x1_S8x2x1500x1500_0_1_2_3)
  , binary main_v108 main_v113 main_v114 (subf)
  , unary main_v114 main_v115 (Host.exp)
  , nullary main_cst_18 (constant S_ .f32 0x00000000#32)
  , binary main_v115 main_cst_18 main_v116 ((fun x v => Host.reduceAdd x v reducesTo_S8x2x1500x1500_S8x2x1500_d3 h_S_))
  , unary main_v116 main_v117 (broadcastInDim S8x2x1500x1 ![0, 1, 2] bcast_S8x2x1500_S8x2x1500x1_0_1_2)
  , unary main_v117 main_v118 (broadcastInDim S8x2x1500x1500 ![0, 1, 2, 3] bcast_S8x2x1500x1_S8x2x1500x1500_0_1_2_3)
  , binary main_v115 main_v118 main_v119 (Host.divf) ]

/-- What `wK` writes. -/
abbrev wK_W : List (Ref sig .tc) :=
  [main_v106, main_cst_15, main_v107, main_v108, main_cst_16, main_v109, main_cst_17, main_v110, main_v111, main_v112, main_v113, main_v114, main_v115, main_cst_18, main_v116, main_v117, main_v118, main_v119]

theorem wK_ok : Ok (F := F) wK wK_W :=
  .cons (binary_bufs_sub ..) rfl rfl <| .cons (nullary_bufs_sub ..) rfl rfl <| .cons (unary_bufs_sub ..) rfl rfl <|
  .cons (binary_bufs_sub ..) rfl rfl <| .cons (nullary_bufs_sub ..) rfl rfl <| .cons (binary_bufs_sub ..) rfl rfl <|
  .cons (nullary_bufs_sub ..) rfl rfl <| .cons (unary_bufs_sub ..) rfl rfl <| .cons (binary_bufs_sub ..) rfl rfl <|
  .cons (unary_bufs_sub ..) rfl rfl <| .cons (unary_bufs_sub ..) rfl rfl <| .cons (binary_bufs_sub ..) rfl rfl <|
  .cons (unary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <| .nil

/-- The attention output and its residual. -/
def wL : List (HloOp τ sig (Elt F)) :=
  [ binary main_v119 main_v105 main_v120 ((fun l r => Host.dotGeneral dot_S8x2x1500x1500_S8x2x1500x64_S8x2x1500x64_3_2_2_3_01_01 none l r))
  , unary main_v120 main_v121 ((transpose S8x1500x2x64 [0, 2, 1, 3] · transposes_S8x2x1500x64_S8x1500x2x64_0_2_1_3))
  , reshape main_v121 main_v122 (rfl : (.f32 : EltTy) = .f32) shapeCasts_S8x1500x2x64_S8x1500x128
  , binary main_v122 main_arg19 main_v123 ((fun l r => Host.dotGeneral dot_S8x1500x128_S128x128_S8x1500x128_2_0_01_1_n_n none l r))
  , binary main_v78 main_v123 main_v124 (addf) ]

/-- What `wL` writes. -/
abbrev wL_W : List (Ref sig .tc) :=
  [main_v120, main_v121, main_v122, main_v123, main_v124]

theorem wL_ok : Ok (F := F) wL wL_W :=
  .cons (binary_bufs_sub ..) rfl rfl <| .cons (unary_bufs_sub ..) rfl rfl <| .cons (reshape_bufs_sub ..) rfl rfl <|
  .cons (binary_bufs_sub ..) rfl rfl <| .cons (binary_bufs_sub ..) rfl rfl <| .nil

/-- The layer norm before the feed-forward layer. -/
def wM : List (HloOp τ sig (Elt F)) :=
  [ nullary main_cst_19 (constant S_ .f32 0x00000000#32)
  , binary main_v124 main_cst_19 main_v125 ((fun x v => Host.reduceAdd x v reducesTo_S8x1500x128_S8x1500_d2 h_S_))
  , unary main_v125 main_v126 (broadcastInDim S8x1500x1 ![0, 1] bcast_S8x1500_S8x1500x1_0_1)
  , nullary main_cst_20 (constant S_ .f32 0x43000000#32)
  , unary main_cst_20 main_v127 (broadcastInDim S8x1500x1 ![] bcast_S_S8x1500x1)
  , binary main_v126 main_v127 main_v128 (Host.divf)
  , nullary main_c_21 (constantI S_ 32 0#32)
  , nullary main_call5_cst (constant S_ .f32 0x00000000#32)
  , binary main_v124 main_call5_cst main_call5_v0 (fun x v => Host.reduceAdd x v reducesTo_S8x1500x128_S8x1500_d2 h_S_)
  , unary main_call5_v0 main_call5_v1 (broadcastInDim S8x1500x1 ![0, 1] bcast_S8x1500_S8x1500x1_0_1)
  , nullary main_call5_cst_0 (constant S_ .f32 0x43000000#32)
  , unary main_call5_cst_0 main_call5_v2 (broadcastInDim S8x1500x1 ![] bcast_S_S8x1500x1)
  , binary main_call5_v1 main_call5_v2 main_call5_v3 Host.divf
  , unary main_call5_v3 main_call5_v4 (broadcastInDim S8x1500x128 ![0, 1, 2] bcast_S8x1500x1_S8x1500x128_0_1_2)
  , binary main_v124 main_call5_v4 main_call5_v5 subf
  , binary main_call5_v5 main_call5_v5 main_call5_v6 mulf
  , unary main_c_21 main_call5_v7 (sitofp .f32)
  , nullary main_call5_cst_1 (constant S_ .f32 0x43000000#32)
  , binary main_call5_cst_1 main_call5_v7 main_call5_v8 subf
  , nullary main_call5_cst_2 (constant S_ .f32 0x00000000#32)
  , binary main_call5_v6 main_call5_cst_2 main_call5_v9 (fun x v => Host.reduceAdd x v reducesTo_S8x1500x128_S8x1500_d2 h_S_)
  , unary main_call5_v9 main_call5_v10 (broadcastInDim S8x1500x1 ![0, 1] bcast_S8x1500_S8x1500x1_0_1)
  , unary main_call5_v8 main_call5_v11 (broadcastInDim S8x1500x1 ![] bcast_S_S8x1500x1)
  , binary main_call5_v10 main_call5_v11 main_call5_v12 Host.divf
  , nullary main_call5_cst_3 (constant S_ .f32 0x00000000#32)
  , binary main_call5_v8 main_call5_cst_3 main_call5_v13 (cmpf .ogt)
  , nullary main_call5_cst_4 (constant S_ .f32 0x7FC00000#32)
  , unary main_call5_cst_4 main_call5_call0_v0 id
  , unary main_call5_call0_v0 main_call5_call0_v1 (broadcastInDim S8x1500x1 ![] bcast_S_S8x1500x1)
  , ternary main_call5_v13 main_call5_v12 main_call5_call0_v1 main_v129 (fun p a b => select (broadcastInDim S8x1500x1 ![] bcast_S_S8x1500x1 p) a b)
  , unary main_v128 main_v130 (broadcastInDim S8x1500x128 ![0, 1, 2] bcast_S8x1500x1_S8x1500x128_0_1_2)
  , binary main_v124 main_v130 main_v131 (subf)
  , nullary main_cst_22 (constant S_ .f32 0x3727C5AC#32)
  , unary main_cst_22 main_v132 (broadcastInDim S8x1500x1 ![] bcast_S_S8x1500x1)
  , binary main_v129 main_v132 main_v133 (addf)
  , unary main_v133 main_v134 (Host.sqrt)
  , unary main_v134 main_v135 (broadcastInDim S8x1500x128 ![0, 1, 2] bcast_S8x1500x1_S8x1500x128_0_1_2)
  , binary main_v131 main_v135 main_v136 (Host.divf)
  , unary main_arg20 main_v137 (broadcastInDim S1x1x128 ![2] bcast_S128_S1x1x128_2)
  , unary main_v137 main_v138 (broadcastInDim S8x1500x128 ![0, 1, 2] bcast_S1x1x128_S8x1500x128_0_1_2)
  , binary main_v136 main_v138 main_v139 (mulf)
  , unary main_arg21 main_v140 (broadcastInDim S1x1x128 ![2] bcast_S128_S1x1x128_2)
  , unary main_v140 main_v141 (broadcastInDim S8x1500x128 ![0, 1, 2] bcast_S1x1x128_S8x1500x128_0_1_2)
  , binary main_v139 main_v141 main_v142 (addf) ]

/-- What `wM` writes. -/
abbrev wM_W : List (Ref sig .tc) :=
  [main_cst_19, main_v125, main_v126, main_cst_20, main_v127, main_v128, main_c_21, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v129, main_v130, main_v131, main_cst_22, main_v132, main_v133, main_v134, main_v135, main_v136, main_v137, main_v138, main_v139, main_v140, main_v141, main_v142]

theorem wM_ok : Ok (F := F) wM wM_W :=
  .cons (nullary_bufs_sub ..) rfl rfl <| .cons (binary_bufs_sub ..) rfl rfl <| .cons (unary_bufs_sub ..) rfl rfl <|
  .cons (nullary_bufs_sub ..) rfl rfl <| .cons (unary_bufs_sub ..) rfl rfl <| .cons (binary_bufs_sub ..) rfl rfl <|
  .cons (nullary_bufs_sub ..) rfl rfl <| .cons (nullary_bufs_sub ..) rfl rfl <| .cons (binary_bufs_sub ..) rfl rfl <|
  .cons (unary_bufs_sub ..) rfl rfl <| .cons (nullary_bufs_sub ..) rfl rfl <| .cons (unary_bufs_sub ..) rfl rfl <|
  .cons (binary_bufs_sub ..) rfl rfl <| .cons (unary_bufs_sub ..) rfl rfl <| .cons (binary_bufs_sub ..) rfl rfl <|
  .cons (binary_bufs_sub ..) rfl rfl <| .cons (unary_bufs_sub ..) rfl rfl <| .cons (nullary_bufs_sub ..) rfl rfl <|
  .cons (binary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <|
  .cons (nullary_bufs_sub ..) rfl rfl <| .cons (binary_bufs_sub ..) rfl rfl <| .cons (nullary_bufs_sub ..) rfl rfl <|
  .cons (unary_bufs_sub ..) rfl rfl <| .cons (unary_bufs_sub ..) rfl rfl <| .cons (ternary_bufs_sub ..) rfl rfl <|
  .cons (unary_bufs_sub ..) rfl rfl <| .cons (binary_bufs_sub ..) rfl rfl <| .cons (nullary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .nil

/-- The feed-forward layer, up to the cube inside its gelu. -/
def wN0 : List (HloOp τ sig (Elt F)) :=
  [ binary main_v142 main_arg22 main_v143 ((fun l r => Host.dotGeneral dot_S8x1500x128_S128x512_S8x1500x512_2_0_01_1_n_n none l r))
  , unary main_arg23 main_v144 (broadcastInDim S1x1x512 ![2] bcast_S512_S1x1x512_2)
  , unary main_v144 main_v145 (broadcastInDim S8x1500x512 ![0, 1, 2] bcast_S1x1x512_S8x1500x512_0_1_2)
  , binary main_v143 main_v145 main_v146 (addf)
  , nullary main_cst_23 (constant S_ .f32 0x3F000000#32)
  , unary main_cst_23 main_v147 (broadcastInDim S8x1500x512 ![] bcast_S_S8x1500x512)
  , binary main_v147 main_v146 main_v148 (mulf)
  , binary main_v146 main_v146 main_v149 (mulf)
  , binary main_v149 main_v146 main_v150 (mulf)
  , nullary main_cst_24 (constant S_ .f32 0x3D372713#32)
  , unary main_cst_24 main_v151 (broadcastInDim S8x1500x512 ![] bcast_S_S8x1500x512)
  , binary main_v151 main_v150 main_v152 (mulf) ]

/-- What `wN0` writes. -/
abbrev wN0_W : List (Ref sig .tc) :=
  [main_v143, main_v144, main_v145, main_v146, main_cst_23, main_v147, main_v148, main_v149, main_v150, main_cst_24, main_v151, main_v152]

theorem wN0_ok : Ok (F := F) wN0 wN0_W :=
  .cons (binary_bufs_sub ..) rfl rfl <| .cons (unary_bufs_sub ..) rfl rfl <| .cons (unary_bufs_sub ..) rfl rfl <|
  .cons (binary_bufs_sub ..) rfl rfl <| .cons (nullary_bufs_sub ..) rfl rfl <| .cons (unary_bufs_sub ..) rfl rfl <|
  .cons (binary_bufs_sub ..) rfl rfl <| .cons (binary_bufs_sub ..) rfl rfl <| .cons (binary_bufs_sub ..) rfl rfl <|
  .cons (nullary_bufs_sub ..) rfl rfl <| .cons (unary_bufs_sub ..) rfl rfl <| .cons (binary_bufs_sub ..) rfl rfl <| .nil

/-- The rest of that gelu. -/
def wN1 : List (HloOp τ sig (Elt F)) :=
  [ binary main_v146 main_v152 main_v153 (addf)
  , nullary main_cst_25 (constant S_ .f32 0x3F4C422A#32)
  , unary main_cst_25 main_v154 (broadcastInDim S8x1500x512 ![] bcast_S_S8x1500x512)
  , binary main_v154 main_v153 main_v155 (mulf)
  , unary main_v155 main_v156 (Host.tanh)
  , nullary main_cst_26 (constant S_ .f32 0x3F800000#32)
  , unary main_cst_26 main_v157 (broadcastInDim S8x1500x512 ![] bcast_S_S8x1500x512)
  , binary main_v157 main_v156 main_v158 (addf)
  , binary main_v148 main_v158 main_v159 (mulf) ]

/-- What `wN1` writes. -/
abbrev wN1_W : List (Ref sig .tc) :=
  [main_v153, main_cst_25, main_v154, main_v155, main_v156, main_cst_26, main_v157, main_v158, main_v159]

theorem wN1_ok : Ok (F := F) wN1 wN1_W :=
  .cons (binary_bufs_sub ..) rfl rfl <| .cons (nullary_bufs_sub ..) rfl rfl <| .cons (unary_bufs_sub ..) rfl rfl <|
  .cons (binary_bufs_sub ..) rfl rfl <| .cons (unary_bufs_sub ..) rfl rfl <| .cons (nullary_bufs_sub ..) rfl rfl <|
  .cons (unary_bufs_sub ..) rfl rfl <| .cons (binary_bufs_sub ..) rfl rfl <| .cons (binary_bufs_sub ..) rfl rfl <| .nil

/-- The second feed-forward product and its residual. -/
def wO : List (HloOp τ sig (Elt F)) :=
  [ binary main_v159 main_arg24 main_v160 ((fun l r => Host.dotGeneral dot_S8x1500x512_S512x128_S8x1500x128_2_0_01_1_n_n none l r))
  , unary main_arg25 main_v161 (broadcastInDim S1x1x128 ![2] bcast_S128_S1x1x128_2)
  , unary main_v161 main_v162 (broadcastInDim S8x1500x128 ![0, 1, 2] bcast_S1x1x128_S8x1500x128_0_1_2)
  , binary main_v160 main_v162 main_v163 (addf)
  , binary main_v124 main_v163 main_v164 (addf) ]

/-- What `wO` writes. -/
abbrev wO_W : List (Ref sig .tc) :=
  [main_v160, main_v161, main_v162, main_v163, main_v164]

theorem wO_ok : Ok (F := F) wO wO_W :=
  .cons (binary_bufs_sub ..) rfl rfl <| .cons (unary_bufs_sub ..) rfl rfl <| .cons (unary_bufs_sub ..) rfl rfl <|
  .cons (binary_bufs_sub ..) rfl rfl <| .cons (binary_bufs_sub ..) rfl rfl <| .nil

/-- The last layer norm. -/
def wP : List (HloOp τ sig (Elt F)) :=
  [ nullary main_cst_27 (constant S_ .f32 0x00000000#32)
  , binary main_v164 main_cst_27 main_v165 ((fun x v => Host.reduceAdd x v reducesTo_S8x1500x128_S8x1500_d2 h_S_))
  , unary main_v165 main_v166 (broadcastInDim S8x1500x1 ![0, 1] bcast_S8x1500_S8x1500x1_0_1)
  , nullary main_cst_28 (constant S_ .f32 0x43000000#32)
  , unary main_cst_28 main_v167 (broadcastInDim S8x1500x1 ![] bcast_S_S8x1500x1)
  , binary main_v166 main_v167 main_v168 (Host.divf)
  , nullary main_c_29 (constantI S_ 32 0#32)
  , nullary main_call6_cst (constant S_ .f32 0x00000000#32)
  , binary main_v164 main_call6_cst main_call6_v0 (fun x v => Host.reduceAdd x v reducesTo_S8x1500x128_S8x1500_d2 h_S_)
  , unary main_call6_v0 main_call6_v1 (broadcastInDim S8x1500x1 ![0, 1] bcast_S8x1500_S8x1500x1_0_1)
  , nullary main_call6_cst_0 (constant S_ .f32 0x43000000#32)
  , unary main_call6_cst_0 main_call6_v2 (broadcastInDim S8x1500x1 ![] bcast_S_S8x1500x1)
  , binary main_call6_v1 main_call6_v2 main_call6_v3 Host.divf
  , unary main_call6_v3 main_call6_v4 (broadcastInDim S8x1500x128 ![0, 1, 2] bcast_S8x1500x1_S8x1500x128_0_1_2)
  , binary main_v164 main_call6_v4 main_call6_v5 subf
  , binary main_call6_v5 main_call6_v5 main_call6_v6 mulf
  , unary main_c_29 main_call6_v7 (sitofp .f32)
  , nullary main_call6_cst_1 (constant S_ .f32 0x43000000#32)
  , binary main_call6_cst_1 main_call6_v7 main_call6_v8 subf
  , nullary main_call6_cst_2 (constant S_ .f32 0x00000000#32)
  , binary main_call6_v6 main_call6_cst_2 main_call6_v9 (fun x v => Host.reduceAdd x v reducesTo_S8x1500x128_S8x1500_d2 h_S_)
  , unary main_call6_v9 main_call6_v10 (broadcastInDim S8x1500x1 ![0, 1] bcast_S8x1500_S8x1500x1_0_1)
  , unary main_call6_v8 main_call6_v11 (broadcastInDim S8x1500x1 ![] bcast_S_S8x1500x1)
  , binary main_call6_v10 main_call6_v11 main_call6_v12 Host.divf
  , nullary main_call6_cst_3 (constant S_ .f32 0x00000000#32)
  , binary main_call6_v8 main_call6_cst_3 main_call6_v13 (cmpf .ogt)
  , nullary main_call6_cst_4 (constant S_ .f32 0x7FC00000#32)
  , unary main_call6_cst_4 main_call6_call0_v0 id
  , unary main_call6_call0_v0 main_call6_call0_v1 (broadcastInDim S8x1500x1 ![] bcast_S_S8x1500x1)
  , ternary main_call6_v13 main_call6_v12 main_call6_call0_v1 main_v169 (fun p a b => select (broadcastInDim S8x1500x1 ![] bcast_S_S8x1500x1 p) a b)
  , unary main_v168 main_v170 (broadcastInDim S8x1500x128 ![0, 1, 2] bcast_S8x1500x1_S8x1500x128_0_1_2)
  , binary main_v164 main_v170 main_v171 (subf)
  , nullary main_cst_30 (constant S_ .f32 0x3727C5AC#32)
  , unary main_cst_30 main_v172 (broadcastInDim S8x1500x1 ![] bcast_S_S8x1500x1)
  , binary main_v169 main_v172 main_v173 (addf)
  , unary main_v173 main_v174 (Host.sqrt)
  , unary main_v174 main_v175 (broadcastInDim S8x1500x128 ![0, 1, 2] bcast_S8x1500x1_S8x1500x128_0_1_2)
  , binary main_v171 main_v175 main_v176 (Host.divf)
  , unary main_arg26 main_v177 (broadcastInDim S1x1x128 ![2] bcast_S128_S1x1x128_2)
  , unary main_v177 main_v178 (broadcastInDim S8x1500x128 ![0, 1, 2] bcast_S1x1x128_S8x1500x128_0_1_2)
  , binary main_v176 main_v178 main_v179 (mulf)
  , unary main_arg27 main_v180 (broadcastInDim S1x1x128 ![2] bcast_S128_S1x1x128_2)
  , unary main_v180 main_v181 (broadcastInDim S8x1500x128 ![0, 1, 2] bcast_S1x1x128_S8x1500x128_0_1_2)
  , binary main_v179 main_v181 main_v182 (addf) ]

/-- What `wP` writes. -/
abbrev wP_W : List (Ref sig .tc) :=
  [main_cst_27, main_v165, main_v166, main_cst_28, main_v167, main_v168, main_c_29, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v169, main_v170, main_v171, main_cst_30, main_v172, main_v173, main_v174, main_v175, main_v176, main_v177, main_v178, main_v179, main_v180, main_v181, main_v182]

theorem wP_ok : Ok (F := F) wP wP_W :=
  .cons (nullary_bufs_sub ..) rfl rfl <| .cons (binary_bufs_sub ..) rfl rfl <| .cons (unary_bufs_sub ..) rfl rfl <|
  .cons (nullary_bufs_sub ..) rfl rfl <| .cons (unary_bufs_sub ..) rfl rfl <| .cons (binary_bufs_sub ..) rfl rfl <|
  .cons (nullary_bufs_sub ..) rfl rfl <| .cons (nullary_bufs_sub ..) rfl rfl <| .cons (binary_bufs_sub ..) rfl rfl <|
  .cons (unary_bufs_sub ..) rfl rfl <| .cons (nullary_bufs_sub ..) rfl rfl <| .cons (unary_bufs_sub ..) rfl rfl <|
  .cons (binary_bufs_sub ..) rfl rfl <| .cons (unary_bufs_sub ..) rfl rfl <| .cons (binary_bufs_sub ..) rfl rfl <|
  .cons (binary_bufs_sub ..) rfl rfl <| .cons (unary_bufs_sub ..) rfl rfl <| .cons (nullary_bufs_sub ..) rfl rfl <|
  .cons (binary_bufs_sub ..) rfl rfl <| .cons (nullary_bufs_sub ..) rfl rfl <| .cons (binary_bufs_sub ..) rfl rfl <|
  .cons (unary_bufs_sub ..) rfl rfl <| .cons (unary_bufs_sub ..) rfl rfl <| .cons (binary_bufs_sub ..) rfl rfl <|
  .cons (nullary_bufs_sub ..) rfl rfl <| .cons (binary_bufs_sub ..) rfl rfl <| .cons (nullary_bufs_sub ..) rfl rfl <|
  .cons (unary_bufs_sub ..) rfl rfl <| .cons (unary_bufs_sub ..) rfl rfl <| .cons (ternary_bufs_sub ..) rfl rfl <|
  .cons (unary_bufs_sub ..) rfl rfl <| .cons (binary_bufs_sub ..) rfl rfl <| .cons (nullary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .cons (unary_bufs_sub ..) rfl rfl <|
  .cons (unary_bufs_sub ..) rfl rfl <| .cons (binary_bufs_sub ..) rfl rfl <| .nil

set_option maxHeartbeats 4000000 in
theorem main_part0_eq (c : Dev nD) : main_part0 (F := F) c = seq (wA ++ (wB ++ (wC ++ (wD0)))) := rfl

set_option maxHeartbeats 4000000 in
theorem main_part1_eq (c : Dev nD) : main_part1 (F := F) c = seq (wD1 ++ (wE ++ (wF ++ (wG ++ (wH ++ (wI ++ (wJ0))))))) := rfl

set_option maxHeartbeats 4000000 in
theorem main_part2_eq (c : Dev nD) : main_part2 (F := F) c = seq (wJ1 ++ (wK ++ (wL ++ (wM ++ (wN0))))) := rfl

set_option maxHeartbeats 4000000 in
theorem main_part3_eq (c : Dev nD) : main_part3 (F := F) c = seq (wN1 ++ (wO ++ (wP))) := rfl

/-- The whole program. -/
def ops : List (HloOp τ sig (Elt F)) :=
  (wA ++ (wB ++ (wC ++ (wD0)))) ++ ((wD1 ++ (wE ++ (wF ++ (wG ++ (wH ++ (wI ++ (wJ0))))))) ++ ((wJ1 ++ (wK ++ (wL ++ (wM ++ (wN0))))) ++ ((wN1 ++ (wO ++ (wP))))))

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefOps
-- ==== Proof.RefStages.lean ====
/-
The reference's mathematics, stage by stage, as functions of arrays. Each definition is one stage of `reference.py`; the run of the
reference program (`RefRun`) is their composition.
-/
module

public import proofs.«01_k».proof.Proof.Gen.ReferenceIdeal

@[expose] public section

set_option maxRecDepth 16384

noncomputable section

namespace Cert.ReferenceIdeal.Stage

open Cert.ReferenceIdeal Cert.ReferenceIdeal.Gen Idealize.ShloMosaic

variable {F : FTy → Type} [FloatOps F]

/-- The mean over the last axis. -/
def mean (x : FVec F S8x1500x128 .f32) : FVec F S8x1500x1 .f32 :=
  Host.divf (broadcastInDim S8x1500x1 ![0, 1] bcast_S8x1500_S8x1500x1_0_1
      (Host.reduceAdd x (constant S_ .f32 0x00000000#32) reducesTo_S8x1500x128_S8x1500_d2 h_S_))
    (broadcastInDim S8x1500x1 ![] bcast_S_S8x1500x1 (constant S_ .f32 0x43000000#32))

/-- An array less its mean over the last axis. -/
def centred (x : FVec F S8x1500x128 .f32) : FVec F S8x1500x128 .f32 :=
  subf x (broadcastInDim S8x1500x128 ![0, 1, 2] bcast_S8x1500x1_S8x1500x128_0_1_2 (mean x))

/-- The divisor of the variance: the number of entries less no correction. -/
def count : FVec F S_ .f32 := subf (constant S_ .f32 0x43000000#32) (sitofp .f32 (constantI S_ 32 0#32))

/-- The variance over the last axis. -/
def variance (x : FVec F S8x1500x128 .f32) : FVec F S8x1500x1 .f32 :=
  select (broadcastInDim S8x1500x1 ![] bcast_S_S8x1500x1 (cmpf .ogt (count (F := F)) (constant S_ .f32 0x00000000#32)))
    (Host.divf (broadcastInDim S8x1500x1 ![0, 1] bcast_S8x1500_S8x1500x1_0_1
        (Host.reduceAdd (mulf (centred x) (centred x)) (constant S_ .f32 0x00000000#32) reducesTo_S8x1500x128_S8x1500_d2 h_S_))
      (broadcastInDim S8x1500x1 ![] bcast_S_S8x1500x1 (count (F := F))))
    (broadcastInDim S8x1500x1 ![] bcast_S_S8x1500x1 (id (constant S_ .f32 0x7FC00000#32)))

/-- A vector of 128 entries repeated along the two outer axes. -/
def wide128 (g : FVec F S128 .f32) : FVec F S8x1500x128 .f32 :=
  broadcastInDim S8x1500x128 ![0, 1, 2] bcast_S1x1x128_S8x1500x128_0_1_2 (broadcastInDim S1x1x128 ![2] bcast_S128_S1x1x128_2 g)

/-- A vector of 512 entries repeated along the two outer axes. -/
def wide512 (g : FVec F S512 .f32) : FVec F S8x1500x512 .f32 :=
  broadcastInDim S8x1500x512 ![0, 1, 2] bcast_S1x1x512_S8x1500x512_0_1_2 (broadcastInDim S1x1x512 ![2] bcast_S512_S1x1x512_2 g)

/-- The layer norm. -/
def layerNorm (x : FVec F S8x1500x128 .f32) (g b : FVec F S128 .f32) : FVec F S8x1500x128 .f32 :=
  addf (mulf (Host.divf (centred x)
      (broadcastInDim S8x1500x128 ![0, 1, 2] bcast_S8x1500x1_S8x1500x128_0_1_2
        (Host.sqrt (addf (variance x) (broadcastInDim S8x1500x1 ![] bcast_S_S8x1500x1 (constant S_ .f32 0x3727C5AC#32))))))
    (wide128 g)) (wide128 b)

/-- The dense layer from 128 to 512. -/
def dense512 (x : FVec F S8x1500x128 .f32) (w : FVec F S128x512 .f32) (b : FVec F S512 .f32) : FVec F S8x1500x512 .f32 :=
  addf (Host.dotGeneral dot_S8x1500x128_S128x512_S8x1500x512_2_0_01_1_n_n none x w) (wide512 b)

/-- One number at every place of the hidden layer. -/
def all512 (v : BitVec 32) : FVec F S8x1500x512 .f32 := broadcastInDim S8x1500x512 ![] bcast_S_S8x1500x512 (constant S_ .f32 v)

/-- The gelu in its tanh form. -/
def gelu (h : FVec F S8x1500x512 .f32) : FVec F S8x1500x512 .f32 :=
  mulf (mulf (all512 0x3F000000#32) h)
    (addf (all512 0x3F800000#32)
      (Host.tanh (mulf (all512 0x3F4C422A#32) (addf h (mulf (all512 0x3D372713#32) (mulf (mulf h h) h))))))

/-- The dense layer from 512 back to 128. -/
def dense128 (h : FVec F S8x1500x512 .f32) (w : FVec F S512x128 .f32) (b : FVec F S128 .f32) : FVec F S8x1500x128 .f32 :=
  addf (Host.dotGeneral dot_S8x1500x512_S512x128_S8x1500x128_2_0_01_1_n_n none h w) (wide128 b)

/-- The projection into the codebook space. -/
def project (x : FVec F S8x1500x128 .f32) (w : FVec F S128x2 .f32) (b : FVec F S2 .f32) : FVec F S8x1500x2 .f32 :=
  addf (Host.dotGeneral dot_S8x1500x128_S128x2_S8x1500x2_2_0_01_1_n_n none x w)
    (broadcastInDim S8x1500x2 ![0, 1, 2] bcast_S1x1x2_S8x1500x2_0_1_2 (broadcastInDim S1x1x2 ![2] bcast_S2_S1x1x2_2 b))

/-- The squared distances to the codebook rows, by the expanded square. -/
def distances (z : FVec F S8x1500x2 .f32) (cb : FVec F S513x2 .f32) : FVec F S8x1500x513 .f32 :=
  addf (subf
      (broadcastInDim S8x1500x513 ![0, 1, 2] bcast_S8x1500x1_S8x1500x513_0_1_2
        (broadcastInDim S8x1500x1 ![0, 1] bcast_S8x1500_S8x1500x1_0_1
          (Host.reduceAdd (mulf z z) (constant S_ .f32 0x00000000#32) reducesTo_S8x1500x2_S8x1500_d2 h_S_)))
      (mulf (broadcastInDim S8x1500x513 ![] bcast_S_S8x1500x513 (constant S_ .f32 0x40000000#32))
        (Host.dotGeneral dot_S8x1500x2_S2x513_S8x1500x513_2_0_01_1_n_n none z (transpose S2x513 [1, 0] cb transposes_S513x2_S2x513_1_0))))
    (broadcastInDim S8x1500x513 ![0, 1, 2] bcast_S1x1x513_S8x1500x513_0_1_2
      (broadcastInDim S1x1x513 ![2] bcast_S513_S1x1x513_2
        (Host.reduceAdd (mulf cb cb) (constant S_ .f32 0x00000000#32) reducesTo_S513x2_S513_d1 h_S_)))

/-- The number of the first nearest row. -/
def nearest (d : FVec F S8x1500x513 .f32) : IVec S8x1500 32 := fun j =>
  (Host.argReduce reducer_argmin_f32_i32 d (iotaInDim S8x1500x513 32 2) (constant S_ .f32 0x7F800000#32) (constantI S_ 32 0#32)
    reducesTo_S8x1500x513_S8x1500_d2 h_S_ j).2

/-- A row number with the negative ones counted from the end, as an index array. -/
def rowNumber (n : IVec S8x1500 32) : IVec S8x1500x1 32 :=
  broadcastInDim S8x1500x1 ![0, 1] bcast_S8x1500_S8x1500x1_0_1
    (select (cmpi .slt n (broadcastInDim S8x1500 ![] bcast_S_S8x1500 (constantI S_ 32 0#32)))
      (addi n (broadcastInDim S8x1500 ![] bcast_S_S8x1500 (constantI S_ 32 513#32))) n)

/-- Whether a row number lies in the codebook. -/
def inside (i : IVec S8x1500x1 32) : IVec S8x1500 1 :=
  Host.reduce IntOp.andi
    (andi (cmpi .sge i (broadcastInDim S8x1500x1 ![] bcast_S_S8x1500x1 (constantI S_ 32 0#32)))
      (cmpi .sle i (broadcastInDim S8x1500x1 ![0, 1, 2] bcast_S1x1x1_S8x1500x1_0_1_2
        (broadcastInDim S1x1x1 ![2] bcast_S1_S1x1x1_2 (constantI S1 32 512#32)))))
    (constantI S_ 1 1#1) reducesTo_S8x1500x1_S8x1500_d2 h_S_

/-- The codebook rows of the given numbers. -/
def rows (n : IVec S8x1500 32) (cb : FVec F S513x2 .f32) : FVec F S8x1500x2 .f32 :=
  select (broadcastInDim S8x1500x2 ![0, 1] bcast_S8x1500_S8x1500x2_0_1 (inside (rowNumber n)))
    (Host.gather gather_S513x2_S8x1500x1_S8x1500x2_2_0_n_n_0_2_12 cb (rowNumber n))
    (broadcastInDim S8x1500x2 ![] bcast_S_S8x1500x2 (constant S_ .f32 0x7FC00000#32))

/-- The commitment loss: the mean square of the difference. -/
def commit (q z : FVec F S8x1500x2 .f32) : FVec F S_ .f32 :=
  Host.divf (Host.reduceAdd (mulf (subf q z) (subf q z)) (constant S_ .f32 0x00000000#32) reducesTo_S8x1500x2_S_d0_1_2 h_S_)
    (constant S_ .f32 0x46BB8000#32)

/-- The straight-through estimate. -/
def straight (q z : FVec F S8x1500x2 .f32) : FVec F S8x1500x2 .f32 := addf z (subf q z)

/-- The codebook's last row, projected: what stands where the mask is off. -/
def blank (w : FVec F S2x128 .f32) (b : FVec F S128 .f32) (cb : FVec F S513x2 .f32) : FVec F S128 .f32 :=
  addf (Host.dotGeneral dot_S2_S2x128_S128_0_0_n_1_n_n none
    (shapeCast S2 (extractStridedSlice S1x2 ![512, 0] cb slices_S513x2_S1x2_512_0) shapeCasts_S1x2_S2) w) b

/-- The projection out of the codebook space, the mask, and the positions. -/
def embed (q : FVec F S8x1500x2 .f32) (w : FVec F S2x128 .f32) (b : FVec F S128 .f32) (cb : FVec F S513x2 .f32)
    (mask : IVec S8x1500 1) (pos : FVec F S1500x128 .f32) : FVec F S8x1500x128 .f32 :=
  addf
    (select
      (broadcastInDim S8x1500x128 ![0, 1, 2] bcast_S8x1500x1_S8x1500x128_0_1_2
        (broadcastInDim S8x1500x1 ![0, 1] bcast_S8x1500_S8x1500x1_0_1 mask))
      (addf (Host.dotGeneral dot_S8x1500x2_S2x128_S8x1500x128_2_0_01_1_n_n none q w) (wide128 b))
      (broadcastInDim S8x1500x128 ![2] bcast_S128_S8x1500x128_2 (blank w b cb)))
    (broadcastInDim S8x1500x128 ![0, 1, 2] bcast_S1x1500x128_S8x1500x128_0_1_2
      (broadcastInDim S1x1500x128 ![1, 2] bcast_S1500x128_S1x1500x128_1_2 pos))

/-- A projection, cut into its two heads. -/
def heads (y : FVec F S8x1500x128 .f32) (w : FVec F S128x128 .f32) : FVec F S8x2x1500x64 .f32 :=
  transpose S8x2x1500x64 [0, 2, 1, 3]
    (shapeCast S8x1500x2x64 (Host.dotGeneral dot_S8x1500x128_S128x128_S8x1500x128_2_0_01_1_n_n none y w) shapeCasts_S8x1500x128_S8x1500x2x64)
    transposes_S8x1500x2x64_S8x2x1500x64_0_2_1_3

/-- The scaled scores. -/
def scores (q k : FVec F S8x2x1500x64 .f32) : FVec F S8x2x1500x1500 .f32 :=
  mulf (Host.dotGeneral dot_S8x2x1500x64_S8x2x1500x64_S8x2x1500x1500_3_3_2_2_01_01 none q k)
    (broadcastInDim S8x2x1500x1500 ![] bcast_S_S8x2x1500x1500 (constant S_ .f32 0x3E000000#32))

/-- The exponentials of the scores less their row's greatest. -/
def expScores (s : FVec F S8x2x1500x1500 .f32) : FVec F S8x2x1500x1500 .f32 :=
  Host.exp (subf s
    (broadcastInDim S8x2x1500x1500 ![0, 1, 2, 3] bcast_S8x2x1500x1_S8x2x1500x1500_0_1_2_3
      (broadcastInDim S8x2x1500x1 ![0, 1, 2] bcast_S8x2x1500_S8x2x1500x1_0_1_2
        (maximumf (broadcastInDim S8x2x1500 ![] bcast_S_S8x2x1500 (constant S_ .f32 0xFF800000#32))
          (Host.reduce FloatOps.maximumf s (constant S_ .f32 0xFF800000#32) reducesTo_S8x2x1500x1500_S8x2x1500_d3 h_S_)))))

/-- The softmax of the scaled scores. -/
def softmax (q k : FVec F S8x2x1500x64 .f32) : FVec F S8x2x1500x1500 .f32 :=
  Host.divf (expScores (scores q k))
    (broadcastInDim S8x2x1500x1500 ![0, 1, 2, 3] bcast_S8x2x1500x1_S8x2x1500x1500_0_1_2_3
      (broadcastInDim S8x2x1500x1 ![0, 1, 2] bcast_S8x2x1500_S8x2x1500x1_0_1_2
        (Host.reduceAdd (expScores (scores q k)) (constant S_ .f32 0x00000000#32) reducesTo_S8x2x1500x1500_S8x2x1500_d3 h_S_)))

/-- The weighted values, put back together, projected, and added to the input. -/
def attend (p : FVec F S8x2x1500x1500 .f32) (v : FVec F S8x2x1500x64 .f32) (w : FVec F S128x128 .f32) (x : FVec F S8x1500x128 .f32) :
    FVec F S8x1500x128 .f32 :=
  addf x (Host.dotGeneral dot_S8x1500x128_S128x128_S8x1500x128_2_0_01_1_n_n none
    (shapeCast S8x1500x128
      (transpose S8x1500x2x64 [0, 2, 1, 3] (Host.dotGeneral dot_S8x2x1500x1500_S8x2x1500x64_S8x2x1500x64_3_2_2_3_01_01 none p v)
        transposes_S8x2x1500x64_S8x1500x2x64_0_2_1_3) shapeCasts_S8x1500x2x64_S8x1500x128) w)

/-- The arguments. -/
structure Args (F : FTy → Type) where
  embs : FVec F S8x1500x128 .f32
  mask : IVec S8x1500 1
  mlpG : FVec F S128 .f32
  mlpB : FVec F S128 .f32
  mlpW1 : FVec F S128x512 .f32
  mlpB1 : FVec F S512 .f32
  mlpW2 : FVec F S512x128 .f32
  mlpB2 : FVec F S128 .f32
  inW : FVec F S128x2 .f32
  inB : FVec F S2 .f32
  outW : FVec F S2x128 .f32
  outB : FVec F S128 .f32
  cb : FVec F S513x2 .f32
  pos : FVec F S1500x128 .f32
  ln1G : FVec F S128 .f32
  ln1B : FVec F S128 .f32
  wq : FVec F S128x128 .f32
  wk : FVec F S128x128 .f32
  wv : FVec F S128x128 .f32
  wo : FVec F S128x128 .f32
  ln2G : FVec F S128 .f32
  ln2B : FVec F S128 .f32
  ffnW1 : FVec F S128x512 .f32
  ffnB1 : FVec F S512 .f32
  ffnW2 : FVec F S512x128 .f32
  ffnB2 : FVec F S128 .f32
  lastG : FVec F S128 .f32
  lastB : FVec F S128 .f32

namespace Args

variable (A : Args F)

/-- The codebook-space point of each position. -/
def z : FVec F S8x1500x2 .f32 :=
  project (addf A.embs (dense128 (gelu (dense512 (layerNorm A.embs A.mlpG A.mlpB) A.mlpW1 A.mlpB1)) A.mlpW2 A.mlpB2)) A.inW A.inB

/-- The second result: the number of the nearest codebook row. -/
def number : IVec S8x1500 32 := nearest (distances A.z A.cb)

/-- The third result: the commitment loss. -/
def loss : FVec F S_ .f32 := commit (rows A.number A.cb) A.z

/-- The input of the attention block. -/
def x : FVec F S8x1500x128 .f32 := embed (straight (rows A.number A.cb) A.z) A.outW A.outB A.cb A.mask A.pos

/-- The normed input of the attention. -/
def y : FVec F S8x1500x128 .f32 := layerNorm A.x A.ln1G A.ln1B

/-- The attention's result, with its residual. -/
def att : FVec F S8x1500x128 .f32 := attend (softmax (heads A.y A.wq) (heads A.y A.wk)) (heads A.y A.wv) A.wo A.x

/-- The feed-forward layer's result, with its residual. -/
def ffn : FVec F S8x1500x128 .f32 :=
  addf A.att (dense128 (gelu (dense512 (layerNorm A.att A.ln2G A.ln2B) A.ffnW1 A.ffnB1)) A.ffnW2 A.ffnB2)

/-- The first result. -/
def out : FVec F S8x1500x128 .f32 := layerNorm A.ffn A.lastG A.lastB

end Args

end Cert.ReferenceIdeal.Stage
-- ==== Proof.RefRun.lean ====
/-
What the reference program leaves in memory: each piece of it computes its stage, and what a later piece does not write is kept.
-/
module

public import proofs.«01_k».proof.Proof.RefOps
public import proofs.«01_k».proof.Proof.RefStages

@[expose] public section

set_option maxRecDepth 16384

noncomputable section

namespace Cert.ReferenceIdeal.RefRun

open Cert.ReferenceIdeal Cert.ReferenceIdeal.Gen Cert.ReferenceIdeal.RefOps Cert.ReferenceIdeal.Stage
open Idealize.ShloMosaic Idealize.ShloMosaic.TcCoe Idealize.SL.Sem Idealize.ShloMosaic.StableHlo

variable {F : FTy → Type} [FloatOps F]

/-- What memory holds at a reference. -/
abbrev got (V : Valuation τ sig (Elt F)) (r : Ref sig .tc) : r.ty.Contents (Elt F) := V (Proc.devRef .tc r)

theorem v17_of (V : Valuation τ sig (Elt F)) : after (wA) V (Proc.devRef .tc main_v17)
    = layerNorm (got V main_arg0) (got V main_arg2) (got V main_arg3) := by
  simp only [wA]
  after_results_simp
  rfl

theorem v34_of (V : Valuation τ sig (Elt F)) : after (wB) V (Proc.devRef .tc main_v34)
    = gelu (dense512 (got V main_v17) (got V main_arg4) (got V main_arg5)) := by
  simp only [wB]
  after_results_simp
  rfl

theorem v43_of (V : Valuation τ sig (Elt F)) : after (wC) V (Proc.devRef .tc main_v43)
    = project (addf (got V main_arg0) (dense128 (got V main_v34) (got V main_arg6) (got V main_arg7))) (got V main_arg8) (got V main_arg9) := by
  simp only [wC]
  after_results_simp
  rfl

theorem v57_of (V : Valuation τ sig (Elt F)) : after (wD0 ++ wD1) V (Proc.devRef .tc main_v57)
    = distances (got V main_v43) (got V main_arg12) := by
  simp only [wD0, wD1, List.cons_append, List.nil_append]
  after_results_simp
  rfl

theorem v58_of (V : Valuation τ sig (Elt F)) : after (wE) V (Proc.devRef .tc main_v58)
    = nearest (got V main_v57) := by
  simp only [wE]
  after_results_simp
  rfl

theorem v59_of (V : Valuation τ sig (Elt F)) : after (wF) V (Proc.devRef .tc main_v59)
    = rows (got V main_v58) (got V main_arg12) := by
  simp only [wF]
  after_results_simp
  rfl

theorem v63_of (V : Valuation τ sig (Elt F)) : after (wG) V (Proc.devRef .tc main_v63)
    = commit (got V main_v59) (got V main_v43) := by
  simp only [wG]
  after_results_simp
  rfl

theorem v65_of (V : Valuation τ sig (Elt F)) : after (wG) V (Proc.devRef .tc main_v65)
    = straight (got V main_v59) (got V main_v43) := by
  simp only [wG]
  after_results_simp
  rfl

theorem v78_of (V : Valuation τ sig (Elt F)) : after (wH) V (Proc.devRef .tc main_v78)
    = embed (got V main_v65) (got V main_arg10) (got V main_arg11) (got V main_arg12) (got V main_arg1) (got V main_arg13) := by
  simp only [wH]
  after_results_simp
  rfl

theorem v96_of (V : Valuation τ sig (Elt F)) : after (wI) V (Proc.devRef .tc main_v96)
    = layerNorm (got V main_v78) (got V main_arg14) (got V main_arg15) := by
  simp only [wI]
  after_results_simp
  rfl

theorem v99_of (V : Valuation τ sig (Elt F)) : after (wJ0) V (Proc.devRef .tc main_v99)
    = heads (got V main_v96) (got V main_arg16) := by
  simp only [wJ0]
  after_results_simp
  rfl

theorem v102_of (V : Valuation τ sig (Elt F)) : after (wJ0) V (Proc.devRef .tc main_v102)
    = heads (got V main_v96) (got V main_arg17) := by
  simp only [wJ0]
  after_results_simp
  rfl

theorem v105_of (V : Valuation τ sig (Elt F)) : after (wJ1) V (Proc.devRef .tc main_v105)
    = heads (got V main_v96) (got V main_arg18) := by
  simp only [wJ1]
  after_results_simp
  rfl

theorem v119_of (V : Valuation τ sig (Elt F)) : after (wK) V (Proc.devRef .tc main_v119)
    = softmax (got V main_v99) (got V main_v102) := by
  simp only [wK]
  after_results_simp
  rfl

theorem v124_of (V : Valuation τ sig (Elt F)) : after (wL) V (Proc.devRef .tc main_v124)
    = attend (got V main_v119) (got V main_v105) (got V main_arg19) (got V main_v78) := by
  simp only [wL]
  after_results_simp
  rfl

theorem v142_of (V : Valuation τ sig (Elt F)) : after (wM) V (Proc.devRef .tc main_v142)
    = layerNorm (got V main_v124) (got V main_arg20) (got V main_arg21) := by
  simp only [wM]
  after_results_simp
  rfl

theorem v159_of (V : Valuation τ sig (Elt F)) : after (wN0 ++ wN1) V (Proc.devRef .tc main_v159)
    = gelu (dense512 (got V main_v142) (got V main_arg22) (got V main_arg23)) := by
  simp only [wN0, wN1, List.cons_append, List.nil_append]
  after_results_simp
  rfl

theorem v164_of (V : Valuation τ sig (Elt F)) : after (wO) V (Proc.devRef .tc main_v164)
    = addf (got V main_v124) (dense128 (got V main_v159) (got V main_arg24) (got V main_arg25)) := by
  simp only [wO]
  after_results_simp
  rfl

theorem v182_of (V : Valuation τ sig (Elt F)) : after (wP) V (Proc.devRef .tc main_v182)
    = layerNorm (got V main_v164) (got V main_arg26) (got V main_arg27) := by
  simp only [wP]
  after_results_simp
  rfl

variable (V : Valuation τ sig (Elt F))

/-- Memory after each piece in turn. -/
def mem0 : Valuation τ sig (Elt F) := V
/-- Memory after `wA`. -/
def mem1 : Valuation τ sig (Elt F) := after (wA) (mem0 V)
/-- Memory after `wB`. -/
def mem2 : Valuation τ sig (Elt F) := after (wB) (mem1 V)
/-- Memory after `wC`. -/
def mem3 : Valuation τ sig (Elt F) := after (wC) (mem2 V)
/-- Memory after `wD0 ++ wD1`. -/
def mem4 : Valuation τ sig (Elt F) := after (wD0 ++ wD1) (mem3 V)
/-- Memory after `wE`. -/
def mem5 : Valuation τ sig (Elt F) := after (wE) (mem4 V)
/-- Memory after `wF`. -/
def mem6 : Valuation τ sig (Elt F) := after (wF) (mem5 V)
/-- Memory after `wG`. -/
def mem7 : Valuation τ sig (Elt F) := after (wG) (mem6 V)
/-- Memory after `wH`. -/
def mem8 : Valuation τ sig (Elt F) := after (wH) (mem7 V)
/-- Memory after `wI`. -/
def mem9 : Valuation τ sig (Elt F) := after (wI) (mem8 V)
/-- Memory after `wJ0`. -/
def mem10 : Valuation τ sig (Elt F) := after (wJ0) (mem9 V)
/-- Memory after `wJ1`. -/
def mem11 : Valuation τ sig (Elt F) := after (wJ1) (mem10 V)
/-- Memory after `wK`. -/
def mem12 : Valuation τ sig (Elt F) := after (wK) (mem11 V)
/-- Memory after `wL`. -/
def mem13 : Valuation τ sig (Elt F) := after (wL) (mem12 V)
/-- Memory after `wM`. -/
def mem14 : Valuation τ sig (Elt F) := after (wM) (mem13 V)
/-- Memory after `wN0 ++ wN1`. -/
def mem15 : Valuation τ sig (Elt F) := after (wN0 ++ wN1) (mem14 V)
/-- Memory after `wO`. -/
def mem16 : Valuation τ sig (Elt F) := after (wO) (mem15 V)
/-- Memory after `wP`. -/
def mem17 : Valuation τ sig (Elt F) := after (wP) (mem16 V)

theorem after_ops : after ops V = mem17 V := by
  simp only [ops, after_append, mem1, mem2, mem3, mem4, mem5, mem6, mem7, mem8, mem9, mem10, mem11, mem12, mem13, mem14, mem15, mem16, mem17, mem0]

theorem keep1 {r : Ref sig .tc} (h : r ∉ wA_W) : got (mem1 V) r = got (mem0 V) r := Ok.keep wA_ok _ h
theorem keep2 {r : Ref sig .tc} (h : r ∉ wB_W) : got (mem2 V) r = got (mem1 V) r := Ok.keep wB_ok _ h
theorem keep3 {r : Ref sig .tc} (h : r ∉ wC_W) : got (mem3 V) r = got (mem2 V) r := Ok.keep wC_ok _ h
theorem keep4 {r : Ref sig .tc} (h : r ∉ wD0_W ++ wD1_W) : got (mem4 V) r = got (mem3 V) r := Ok.keep (Ok.append wD0_ok wD1_ok) _ h
theorem keep5 {r : Ref sig .tc} (h : r ∉ wE_W) : got (mem5 V) r = got (mem4 V) r := Ok.keep wE_ok _ h
theorem keep6 {r : Ref sig .tc} (h : r ∉ wF_W) : got (mem6 V) r = got (mem5 V) r := Ok.keep wF_ok _ h
theorem keep7 {r : Ref sig .tc} (h : r ∉ wG_W) : got (mem7 V) r = got (mem6 V) r := Ok.keep wG_ok _ h
theorem keep8 {r : Ref sig .tc} (h : r ∉ wH_W) : got (mem8 V) r = got (mem7 V) r := Ok.keep wH_ok _ h
theorem keep9 {r : Ref sig .tc} (h : r ∉ wI_W) : got (mem9 V) r = got (mem8 V) r := Ok.keep wI_ok _ h
theorem keep10 {r : Ref sig .tc} (h : r ∉ wJ0_W) : got (mem10 V) r = got (mem9 V) r := Ok.keep wJ0_ok _ h
theorem keep11 {r : Ref sig .tc} (h : r ∉ wJ1_W) : got (mem11 V) r = got (mem10 V) r := Ok.keep wJ1_ok _ h
theorem keep12 {r : Ref sig .tc} (h : r ∉ wK_W) : got (mem12 V) r = got (mem11 V) r := Ok.keep wK_ok _ h
theorem keep13 {r : Ref sig .tc} (h : r ∉ wL_W) : got (mem13 V) r = got (mem12 V) r := Ok.keep wL_ok _ h
theorem keep14 {r : Ref sig .tc} (h : r ∉ wM_W) : got (mem14 V) r = got (mem13 V) r := Ok.keep wM_ok _ h
theorem keep15 {r : Ref sig .tc} (h : r ∉ wN0_W ++ wN1_W) : got (mem15 V) r = got (mem14 V) r := Ok.keep (Ok.append wN0_ok wN1_ok) _ h
theorem keep16 {r : Ref sig .tc} (h : r ∉ wO_W) : got (mem16 V) r = got (mem15 V) r := Ok.keep wO_ok _ h
theorem keep17 {r : Ref sig .tc} (h : r ∉ wP_W) : got (mem17 V) r = got (mem16 V) r := Ok.keep wP_ok _ h

/-- Everything the program writes. -/
def written : List (Ref sig .tc) := wA_W ++ (wB_W ++ (wC_W ++ ((wD0_W ++ wD1_W) ++ (wE_W ++ (wF_W ++ (wG_W ++ (wH_W ++ (wI_W ++ (wJ0_W ++ (wJ1_W ++ (wK_W ++ (wL_W ++ (wM_W ++ ((wN0_W ++ wN1_W) ++ (wO_W ++ (wP_W))))))))))))))))

/-- A reference the program never writes is kept up to any moment. -/
theorem kept {r : Ref sig .tc} (h : r ∉ written) : got (mem0 V) r = got V r ∧ got (mem1 V) r = got V r ∧ got (mem2 V) r = got V r ∧ got (mem3 V) r = got V r ∧ got (mem4 V) r = got V r ∧ got (mem5 V) r = got V r ∧ got (mem6 V) r = got V r ∧ got (mem7 V) r = got V r ∧ got (mem8 V) r = got V r ∧ got (mem9 V) r = got V r ∧ got (mem10 V) r = got V r ∧ got (mem11 V) r = got V r ∧ got (mem12 V) r = got V r ∧ got (mem13 V) r = got V r ∧ got (mem14 V) r = got V r ∧ got (mem15 V) r = got V r ∧ got (mem16 V) r = got V r ∧ got (mem17 V) r = got V r := by
  simp only [written, List.mem_append, not_or] at h
  have e1 := keep1 V (r := r) (h.1)
  have e2 := keep2 V (r := r) (h.2.1)
  have e3 := keep3 V (r := r) (h.2.2.1)
  have e4 := keep4 V (r := r) (fun m => (List.mem_append.mp m).elim h.2.2.2.1.1 h.2.2.2.1.2)
  have e5 := keep5 V (r := r) (h.2.2.2.2.1)
  have e6 := keep6 V (r := r) (h.2.2.2.2.2.1)
  have e7 := keep7 V (r := r) (h.2.2.2.2.2.2.1)
  have e8 := keep8 V (r := r) (h.2.2.2.2.2.2.2.1)
  have e9 := keep9 V (r := r) (h.2.2.2.2.2.2.2.2.1)
  have e10 := keep10 V (r := r) (h.2.2.2.2.2.2.2.2.2.1)
  have e11 := keep11 V (r := r) (h.2.2.2.2.2.2.2.2.2.2.1)
  have e12 := keep12 V (r := r) (h.2.2.2.2.2.2.2.2.2.2.2.1)
  have e13 := keep13 V (r := r) (h.2.2.2.2.2.2.2.2.2.2.2.2.1)
  have e14 := keep14 V (r := r) (h.2.2.2.2.2.2.2.2.2.2.2.2.2.1)
  have e15 := keep15 V (r := r) (fun m => (List.mem_append.mp m).elim h.2.2.2.2.2.2.2.2.2.2.2.2.2.2.1.1 h.2.2.2.2.2.2.2.2.2.2.2.2.2.2.1.2)
  have e16 := keep16 V (r := r) (h.2.2.2.2.2.2.2.2.2.2.2.2.2.2.2.1)
  have e17 := keep17 V (r := r) (h.2.2.2.2.2.2.2.2.2.2.2.2.2.2.2.2)
  refine ⟨rfl, e1, ?_, ?_, ?_, ?_, ?_, ?_, ?_, ?_, ?_, ?_, ?_, ?_, ?_, ?_, ?_, ?_⟩
  · rw [e2, e1]; rfl
  · rw [e3, e2, e1]; rfl
  · rw [e4, e3, e2, e1]; rfl
  · rw [e5, e4, e3, e2, e1]; rfl
  · rw [e6, e5, e4, e3, e2, e1]; rfl
  · rw [e7, e6, e5, e4, e3, e2, e1]; rfl
  · rw [e8, e7, e6, e5, e4, e3, e2, e1]; rfl
  · rw [e9, e8, e7, e6, e5, e4, e3, e2, e1]; rfl
  · rw [e10, e9, e8, e7, e6, e5, e4, e3, e2, e1]; rfl
  · rw [e11, e10, e9, e8, e7, e6, e5, e4, e3, e2, e1]; rfl
  · rw [e12, e11, e10, e9, e8, e7, e6, e5, e4, e3, e2, e1]; rfl
  · rw [e13, e12, e11, e10, e9, e8, e7, e6, e5, e4, e3, e2, e1]; rfl
  · rw [e14, e13, e12, e11, e10, e9, e8, e7, e6, e5, e4, e3, e2, e1]; rfl
  · rw [e15, e14, e13, e12, e11, e10, e9, e8, e7, e6, e5, e4, e3, e2, e1]; rfl
  · rw [e16, e15, e14, e13, e12, e11, e10, e9, e8, e7, e6, e5, e4, e3, e2, e1]; rfl
  · rw [e17, e16, e15, e14, e13, e12, e11, e10, e9, e8, e7, e6, e5, e4, e3, e2, e1]; rfl

/-- The arguments as memory holds them. -/
def args : Args F := ⟨got V main_arg0, got V main_arg1, got V main_arg2, got V main_arg3, got V main_arg4, got V main_arg5, got V main_arg6, got V main_arg7, got V main_arg8, got V main_arg9, got V main_arg10, got V main_arg11, got V main_arg12, got V main_arg13, got V main_arg14, got V main_arg15, got V main_arg16, got V main_arg17, got V main_arg18, got V main_arg19, got V main_arg20, got V main_arg21, got V main_arg22, got V main_arg23, got V main_arg24, got V main_arg25, got V main_arg26, got V main_arg27⟩

theorem not_written0 : main_arg0 ∉ written := by decide
theorem not_written1 : main_arg1 ∉ written := by decide
theorem not_written2 : main_arg2 ∉ written := by decide
theorem not_written3 : main_arg3 ∉ written := by decide
theorem not_written4 : main_arg4 ∉ written := by decide
theorem not_written5 : main_arg5 ∉ written := by decide
theorem not_written6 : main_arg6 ∉ written := by decide
theorem not_written7 : main_arg7 ∉ written := by decide
theorem not_written8 : main_arg8 ∉ written := by decide
theorem not_written9 : main_arg9 ∉ written := by decide
theorem not_written10 : main_arg10 ∉ written := by decide
theorem not_written11 : main_arg11 ∉ written := by decide
theorem not_written12 : main_arg12 ∉ written := by decide
theorem not_written13 : main_arg13 ∉ written := by decide
theorem not_written14 : main_arg14 ∉ written := by decide
theorem not_written15 : main_arg15 ∉ written := by decide
theorem not_written16 : main_arg16 ∉ written := by decide
theorem not_written17 : main_arg17 ∉ written := by decide
theorem not_written18 : main_arg18 ∉ written := by decide
theorem not_written19 : main_arg19 ∉ written := by decide
theorem not_written20 : main_arg20 ∉ written := by decide
theorem not_written21 : main_arg21 ∉ written := by decide
theorem not_written22 : main_arg22 ∉ written := by decide
theorem not_written23 : main_arg23 ∉ written := by decide
theorem not_written24 : main_arg24 ∉ written := by decide
theorem not_written25 : main_arg25 ∉ written := by decide
theorem not_written26 : main_arg26 ∉ written := by decide
theorem not_written27 : main_arg27 ∉ written := by decide

theorem v17_val : got (mem1 V) main_v17 = layerNorm (args V).embs (args V).mlpG (args V).mlpB := by
  refine (v17_of (mem0 V)).trans ?_
  rw [show got (mem0 V) main_arg0 = got V main_arg0 from (kept V not_written0).1,
    show got (mem0 V) main_arg2 = got V main_arg2 from (kept V not_written2).1,
    show got (mem0 V) main_arg3 = got V main_arg3 from (kept V not_written3).1]
  rfl

theorem v34_val : got (mem2 V) main_v34 = gelu (dense512 (layerNorm (args V).embs (args V).mlpG (args V).mlpB) (args V).mlpW1 (args V).mlpB1) := by
  refine (v34_of (mem1 V)).trans ?_
  rw [show got (mem1 V) main_v17 = _ from v17_val V,
    show got (mem1 V) main_arg4 = got V main_arg4 from (kept V not_written4).2.1,
    show got (mem1 V) main_arg5 = got V main_arg5 from (kept V not_written5).2.1]
  rfl

theorem v43_val : got (mem3 V) main_v43 = (args V).z := by
  refine (v43_of (mem2 V)).trans ?_
  rw [show got (mem2 V) main_arg0 = got V main_arg0 from (kept V not_written0).2.2.1,
    show got (mem2 V) main_v34 = _ from v34_val V,
    show got (mem2 V) main_arg6 = got V main_arg6 from (kept V not_written6).2.2.1,
    show got (mem2 V) main_arg7 = got V main_arg7 from (kept V not_written7).2.2.1,
    show got (mem2 V) main_arg8 = got V main_arg8 from (kept V not_written8).2.2.1,
    show got (mem2 V) main_arg9 = got V main_arg9 from (kept V not_written9).2.2.1]
  rfl

theorem v57_val : got (mem4 V) main_v57 = distances (args V).z (args V).cb := by
  refine (v57_of (mem3 V)).trans ?_
  rw [show got (mem3 V) main_v43 = _ from v43_val V,
    show got (mem3 V) main_arg12 = got V main_arg12 from (kept V not_written12).2.2.2.1]
  rfl

theorem v58_val : got (mem5 V) main_v58 = (args V).number := by
  refine (v58_of (mem4 V)).trans ?_
  rw [show got (mem4 V) main_v57 = _ from v57_val V]
  rfl

theorem v59_val : got (mem6 V) main_v59 = rows (args V).number (args V).cb := by
  refine (v59_of (mem5 V)).trans ?_
  rw [show got (mem5 V) main_v58 = _ from v58_val V,
    show got (mem5 V) main_arg12 = got V main_arg12 from (kept V not_written12).2.2.2.2.2.1]
  rfl

theorem v63_val : got (mem7 V) main_v63 = (args V).loss := by
  refine (v63_of (mem6 V)).trans ?_
  rw [show got (mem6 V) main_v59 = _ from v59_val V,
    show got (mem6 V) main_v43 = _ from (keep6 V (by decide)).trans <| (keep5 V (by decide)).trans <| (keep4 V (by decide)).trans <| v43_val V]
  rfl

theorem v65_val : got (mem7 V) main_v65 = straight (rows (args V).number (args V).cb) (args V).z := by
  refine (v65_of (mem6 V)).trans ?_
  rw [show got (mem6 V) main_v59 = _ from v59_val V,
    show got (mem6 V) main_v43 = _ from (keep6 V (by decide)).trans <| (keep5 V (by decide)).trans <| (keep4 V (by decide)).trans <| v43_val V]

theorem v78_val : got (mem8 V) main_v78 = (args V).x := by
  refine (v78_of (mem7 V)).trans ?_
  rw [show got (mem7 V) main_v65 = _ from v65_val V,
    show got (mem7 V) main_arg10 = got V main_arg10 from (kept V not_written10).2.2.2.2.2.2.2.1,
    show got (mem7 V) main_arg11 = got V main_arg11 from (kept V not_written11).2.2.2.2.2.2.2.1,
    show got (mem7 V) main_arg12 = got V main_arg12 from (kept V not_written12).2.2.2.2.2.2.2.1,
    show got (mem7 V) main_arg1 = got V main_arg1 from (kept V not_written1).2.2.2.2.2.2.2.1,
    show got (mem7 V) main_arg13 = got V main_arg13 from (kept V not_written13).2.2.2.2.2.2.2.1]
  rfl

theorem v96_val : got (mem9 V) main_v96 = (args V).y := by
  refine (v96_of (mem8 V)).trans ?_
  rw [show got (mem8 V) main_v78 = _ from v78_val V,
    show got (mem8 V) main_arg14 = got V main_arg14 from (kept V not_written14).2.2.2.2.2.2.2.2.1,
    show got (mem8 V) main_arg15 = got V main_arg15 from (kept V not_written15).2.2.2.2.2.2.2.2.1]
  rfl

theorem v99_val : got (mem10 V) main_v99 = heads (args V).y (args V).wq := by
  refine (v99_of (mem9 V)).trans ?_
  rw [show got (mem9 V) main_v96 = _ from v96_val V,
    show got (mem9 V) main_arg16 = got V main_arg16 from (kept V not_written16).2.2.2.2.2.2.2.2.2.1]
  rfl

theorem v102_val : got (mem10 V) main_v102 = heads (args V).y (args V).wk := by
  refine (v102_of (mem9 V)).trans ?_
  rw [show got (mem9 V) main_v96 = _ from v96_val V,
    show got (mem9 V) main_arg17 = got V main_arg17 from (kept V not_written17).2.2.2.2.2.2.2.2.2.1]
  rfl

theorem v105_val : got (mem11 V) main_v105 = heads (args V).y (args V).wv := by
  refine (v105_of (mem10 V)).trans ?_
  rw [show got (mem10 V) main_v96 = _ from (keep10 V (by decide)).trans <| v96_val V,
    show got (mem10 V) main_arg18 = got V main_arg18 from (kept V not_written18).2.2.2.2.2.2.2.2.2.2.1]
  rfl

theorem v119_val : got (mem12 V) main_v119 = softmax (heads (args V).y (args V).wq) (heads (args V).y (args V).wk) := by
  refine (v119_of (mem11 V)).trans ?_
  rw [show got (mem11 V) main_v99 = _ from (keep11 V (by decide)).trans <| v99_val V,
    show got (mem11 V) main_v102 = _ from (keep11 V (by decide)).trans <| v102_val V]

theorem v124_val : got (mem13 V) main_v124 = (args V).att := by
  refine (v124_of (mem12 V)).trans ?_
  rw [show got (mem12 V) main_v119 = _ from v119_val V,
    show got (mem12 V) main_v105 = _ from (keep12 V (by decide)).trans <| v105_val V,
    show got (mem12 V) main_arg19 = got V main_arg19 from (kept V not_written19).2.2.2.2.2.2.2.2.2.2.2.2.1,
    show got (mem12 V) main_v78 = _ from (keep12 V (by decide)).trans <| (keep11 V (by decide)).trans <| (keep10 V (by decide)).trans <| (keep9 V (by decide)).trans <| v78_val V]
  rfl

theorem v142_val : got (mem14 V) main_v142 = layerNorm (args V).att (args V).ln2G (args V).ln2B := by
  refine (v142_of (mem13 V)).trans ?_
  rw [show got (mem13 V) main_v124 = _ from v124_val V,
    show got (mem13 V) main_arg20 = got V main_arg20 from (kept V not_written20).2.2.2.2.2.2.2.2.2.2.2.2.2.1,
    show got (mem13 V) main_arg21 = got V main_arg21 from (kept V not_written21).2.2.2.2.2.2.2.2.2.2.2.2.2.1]
  rfl

theorem v159_val : got (mem15 V) main_v159 = gelu (dense512 (layerNorm (args V).att (args V).ln2G (args V).ln2B) (args V).ffnW1 (args V).ffnB1) := by
  refine (v159_of (mem14 V)).trans ?_
  rw [show got (mem14 V) main_v142 = _ from v142_val V,
    show got (mem14 V) main_arg22 = got V main_arg22 from (kept V not_written22).2.2.2.2.2.2.2.2.2.2.2.2.2.2.1,
    show got (mem14 V) main_arg23 = got V main_arg23 from (kept V not_written23).2.2.2.2.2.2.2.2.2.2.2.2.2.2.1]
  rfl

theorem v164_val : got (mem16 V) main_v164 = (args V).ffn := by
  refine (v164_of (mem15 V)).trans ?_
  rw [show got (mem15 V) main_v124 = _ from (keep15 V (by decide)).trans <| (keep14 V (by decide)).trans <| v124_val V,
    show got (mem15 V) main_v159 = _ from v159_val V,
    show got (mem15 V) main_arg24 = got V main_arg24 from (kept V not_written24).2.2.2.2.2.2.2.2.2.2.2.2.2.2.2.1,
    show got (mem15 V) main_arg25 = got V main_arg25 from (kept V not_written25).2.2.2.2.2.2.2.2.2.2.2.2.2.2.2.1]
  rfl

theorem v182_val : got (mem17 V) main_v182 = (args V).out := by
  refine (v182_of (mem16 V)).trans ?_
  rw [show got (mem16 V) main_v164 = _ from v164_val V,
    show got (mem16 V) main_arg26 = got V main_arg26 from (kept V not_written26).2.2.2.2.2.2.2.2.2.2.2.2.2.2.2.2.1,
    show got (mem16 V) main_arg27 = got V main_arg27 from (kept V not_written27).2.2.2.2.2.2.2.2.2.2.2.2.2.2.2.2.1]
  rfl

theorem ops_ok : ∃ W, Ok (F := F) ops W :=
  ⟨_, (.append (.append wA_ok (.append wB_ok (.append wC_ok wD0_ok))) (.append (.append wD1_ok (.append wE_ok (.append wF_ok (.append wG_ok (.append wH_ok (.append wI_ok wJ0_ok)))))) (.append (.append wJ1_ok (.append wK_ok (.append wL_ok (.append wM_ok wN0_ok)))) (.append wN1_ok (.append wO_ok wP_ok)))))⟩

/-- The whole run: the three results, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = (args (launchContents m c)).out
      ∧ r.2.mem ((c.tc : Thread nD τ).loc main_v58) = (args (launchContents m c)).number
      ∧ r.2.mem ((c.tc : Thread nD τ).loc main_v63) = (args (launchContents m c)).loss
      ∧ ∀ a ∉ written, r.2.mem ((c.tc : Thread nD τ).loc a) = m ((c.tc : Thread nD τ).loc a) :=
  (θ_run defs _ _).mono (fun _ h c =>
      ⟨(h c main_v182).trans ((congrFun (after_ops (launchContents m c)) _).trans (v182_val _)),
       (h c main_v58).trans ((congrFun (after_ops (launchContents m c)) _).trans
        ((keep17 _ (by decide)).trans <| (keep16 _ (by decide)).trans <| (keep15 _ (by decide)).trans <| (keep14 _ (by decide)).trans <| (keep13 _ (by decide)).trans <| (keep12 _ (by decide)).trans <| (keep11 _ (by decide)).trans <| (keep10 _ (by decide)).trans <| (keep9 _ (by decide)).trans <| (keep8 _ (by decide)).trans <| (keep7 _ (by decide)).trans <| (keep6 _ (by decide)).trans <| v58_val _)),
       (h c main_v63).trans ((congrFun (after_ops (launchContents m c)) _).trans
        ((keep17 _ (by decide)).trans <| (keep16 _ (by decide)).trans <| (keep15 _ (by decide)).trans <| (keep14 _ (by decide)).trans <| (keep13 _ (by decide)).trans <| (keep12 _ (by decide)).trans <| (keep11 _ (by decide)).trans <| (keep10 _ (by decide)).trans <| (keep9 _ (by decide)).trans <| (keep8 _ (by decide)).trans <| v63_val _)),
       fun a ha => (h c a).trans ((congrFun (after_ops (launchContents m c)) _).trans (((kept _ ha).2.2.2.2.2.2.2.2.2.2.2.2.2.2.2.2.2).trans rfl))⟩)
    (run_seq scopedRefs_eq scopedSems_eq defs main (fun _ => ops) main_eq (fun _ => ops_ok.choose_spec.sub) m ρ fun _ => ops_ok.choose_spec.fresh)

end Cert.ReferenceIdeal.RefRun
-- ==== Proof.Reals.lean ====
/-
Extended reals: which values are real numbers, and the constants of the two programs as real numbers.
-/
module

public import Idealize.ShloMosaic.Lib.Pointwise

@[expose] public section

noncomputable section

namespace Cert.Spec

open Idealize.ShloMosaic

/-- A value that is a real number: neither infinity. -/
def IsReal (x : EReal) : Prop := ∃ r : ℝ, x = (r : EReal)

theorem isReal_coe (r : ℝ) : IsReal (r : EReal) := ⟨r, rfl⟩

theorem isReal_zero : IsReal 0 := ⟨0, rfl⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

/-- A finite sum of real numbers, taken among the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  refine ⟨∑ i ∈ s, g i, ?_⟩
  rw [coe_sum]
  exact Finset.sum_congr rfl fun i _ => hg i

/-- A number whose absolute value is below infinity is real. -/
theorem isReal_of_abs_lt {x : EReal} (h : max x (-x) < ⊤) : IsReal x := by
  rw [isReal_iff]
  constructor
  · rintro rfl; simp at h
  · rintro rfl; simp at h

/-- No square is negative. -/
theorem mul_self_nonneg (x : EReal) : 0 ≤ x * x := by
  induction x with
  | bot => simp
  | top => simp
  | coe r => rw [← EReal.coe_mul]; exact_mod_cast _root_.mul_self_nonneg r

/-- A square below infinity is a real number's. -/
theorem isReal_of_mul_self {x : EReal} (h : x * x ≠ ⊤) : IsReal x := by
  rw [isReal_iff]
  constructor
  · rintro rfl; simp at h
  · rintro rfl; simp at h

/-- Division by a real number other than 0 is multiplication by its inverse. -/
theorem div_coe (x : EReal) {r : ℝ} (h : r ≠ 0) : Ideal.div x (r : EReal) = x * ((r⁻¹ : ℝ) : EReal) := by
  have : ((r : ℝ) : EReal) ≠ 0 := by exact_mod_cast h
  simp only [Ideal.div, if_neg this, EReal.coe_inv]

theorem sqrt_top : Ideal.sqrt ⊤ = ⊤ := rfl

theorem rsqrt_top : Ideal.rsqrt ⊤ = 0 := rfl

theorem sqrt_pos {r : ℝ} (h : 0 < r) : Ideal.sqrt (r : EReal) = ((Real.sqrt r : ℝ) : EReal) := by
  show (if r < 0 then ⊥ else ((Real.sqrt r : ℝ) : EReal)) = _
  rw [if_neg h.le.not_gt]

theorem rsqrt_pos {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.le.not_gt, if_neg h.ne']

theorem tanh_coe (r : ℝ) : Ideal.tanh (r : EReal) = ((Real.tanh r : ℝ) : EReal) := rfl

theorem exp_coe (r : ℝ) : Ideal.exp (r : EReal) = ((Real.exp r : ℝ) : EReal) := rfl

theorem exp2_coe (r : ℝ) : Ideal.exp2 (r : EReal) = ((Real.rpow 2 r : ℝ) : EReal) := rfl

/-- A positive real factor goes into a sum, whatever the summands. -/
theorem sum_mul_pos {ι : Type} (s : Finset ι) (f : ι → EReal) {r : ℝ} (h : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h.le) (EReal.coe_ne_top r) _ _

theorem ofBits_128 : Ideal.ofBits .f32 1124073472#32 = ((128 : ℝ) : EReal) := by
  simp [Ideal.ofBits, Ideal.ieee, -EReal.coe_mul]; norm_num

theorem ofBits_half : Ideal.ofBits .f32 1056964608#32 = ((1 / 2 : ℝ) : EReal) := by
  simp [Ideal.ofBits, Ideal.ieee, -EReal.coe_mul]; norm_num

theorem ofBits_eighth : Ideal.ofBits .f32 1040187392#32 = ((1 / 8 : ℝ) : EReal) := by
  simp [Ideal.ofBits, Ideal.ieee, -EReal.coe_mul]; norm_num

/-- What keeps the layer norm's deviation away from 0. -/
theorem ofBits_eps : Ideal.ofBits .f32 925353388#32 = ((2748779 / 274877906944 : ℝ) : EReal) := by
  simp [Ideal.ofBits, Ideal.ieee, -EReal.coe_mul]; norm_num

/-- The gelu's outer constant, the root of 2/π in float32. -/
theorem ofBits_root : Ideal.ofBits .f32 1061962282#32 = ((6693141 / 8388608 : ℝ) : EReal) := by
  simp [Ideal.ofBits, Ideal.ieee, -EReal.coe_mul]; norm_num

/-- The gelu's cubic constant, 0.044715 in float32. -/
theorem ofBits_cubic : Ideal.ofBits .f32 1027024659#32 = ((12003091 / 268435456 : ℝ) : EReal) := by
  simp [Ideal.ofBits, Ideal.ieee, -EReal.coe_mul]; norm_num

theorem ofBits_top : Ideal.ofBits .f32 2139095040#32 = ⊤ := by
  simp [Ideal.ofBits, Ideal.ieee]

theorem ofBits_bot : Ideal.ofBits .f32 4286578688#32 = ⊥ := by
  simp [Ideal.ofBits, Ideal.ieee]

end Cert.Spec
-- ==== Proof.Norm.lean ====
/-
The layer norm of one row, as the reference computes it and as the kernel does, and the gelu of one number likewise.
The norms agree at every row; a normed row is real whenever the scale and shift are. The gelus agree at every real number.
-/
module

public import proofs.«01_k».proof.Proof.Reals

@[expose] public section

noncomputable section

namespace Cert.Spec

open Idealize.ShloMosaic

/-- The mean of 128 numbers. -/
def mean (x : Fin 128 → EReal) : EReal := Ideal.div (∑ k, x k) (Ideal.ofBits .f32 1124073472#32)

/-- The variance of 128 numbers. -/
def var (x : Fin 128 → EReal) : EReal :=
  Ideal.div (∑ k, (x k - mean x) * (x k - mean x)) (Ideal.ofBits .f32 1124073472#32)

/-- The layer norm with its deviation divided by. -/
def norm (x g b : Fin 128 → EReal) (c : Fin 128) : EReal :=
  Ideal.div (x c - mean x) (Ideal.sqrt (var x + Ideal.ofBits .f32 925353388#32)) * g c + b c

/-- The layer norm with the deviation's reciprocal multiplied by. -/
def normK (x g b : Fin 128 → EReal) (c : Fin 128) : EReal :=
  (x c - mean x) * Ideal.rsqrt (var x + Ideal.ofBits .f32 925353388#32) * g c + b c

theorem var_nonneg (x : Fin 128 → EReal) : 0 ≤ var x := by
  rw [var, ofBits_128, div_coe _ (by norm_num)]
  exact mul_nonneg (Finset.sum_nonneg fun k _ => mul_self_nonneg _) (by exact_mod_cast (by norm_num : (0 : ℝ) ≤ 128⁻¹))

/-- The variance is real and not negative, or it is infinite. -/
theorem var_cases (x : Fin 128 → EReal) : var x = ⊤ ∨ ∃ v : ℝ, 0 ≤ v ∧ var x = (v : EReal) := by
  have h := var_nonneg x
  generalize var x = v at h
  induction v with
  | bot => exact absurd h (by simp)
  | top => exact Or.inl rfl
  | coe v => exact Or.inr ⟨v, by exact_mod_cast h, rfl⟩

/-- Dividing by the root and multiplying by the reciprocal root are the same. -/
theorem div_sqrt (x : Fin 128 → EReal) (a : EReal) :
    Ideal.div a (Ideal.sqrt (var x + Ideal.ofBits .f32 925353388#32))
      = a * Ideal.rsqrt (var x + Ideal.ofBits .f32 925353388#32) := by
  rw [ofBits_eps]
  rcases var_cases x with h | ⟨v, hv, h⟩
  · rw [h, EReal.top_add_coe, sqrt_top, rsqrt_top]
    simp [Ideal.div]
  · rw [h, ← EReal.coe_add]
    have hp : (0 : ℝ) < v + 2748779 / 274877906944 := by positivity
    rw [sqrt_pos hp, rsqrt_pos hp]
    exact div_coe a (Real.sqrt_pos.2 hp).ne'

theorem normK_eq (x g b : Fin 128 → EReal) (c : Fin 128) : normK x g b c = norm x g b c := by
  rw [normK, norm, div_sqrt]

/-- Where the variance is not infinite every deviation from the mean is real. -/
theorem isReal_centred {x : Fin 128 → EReal} (h : var x ≠ ⊤) (c : Fin 128) : IsReal (x c - mean x) := by
  refine isReal_of_mul_self fun hc => h ?_
  have hle : (x c - mean x) * (x c - mean x) ≤ ∑ k, (x k - mean x) * (x k - mean x) :=
    Finset.single_le_sum (f := fun k => (x k - mean x) * (x k - mean x)) (fun k _ => mul_self_nonneg _) (Finset.mem_univ c)
  rw [hc, top_le_iff] at hle
  rw [var, hle, ofBits_128, div_coe _ (by norm_num)]
  exact EReal.top_mul_coe_of_pos (by norm_num)

/-- A normed row is real whenever the scale and the shift are: an infinite deviation makes the quotient 0. -/
theorem isReal_norm (x : Fin 128 → EReal) {g b : Fin 128 → EReal} (hg : ∀ c, IsReal (g c)) (hb : ∀ c, IsReal (b c)) (c : Fin 128) :
    IsReal (norm x g b c) := by
  refine IsReal.add (IsReal.mul ?_ (hg c)) (hb c)
  rw [div_sqrt, ofBits_eps]
  by_cases ht : var x = ⊤
  · rw [ht, EReal.top_add_coe, rsqrt_top, mul_zero]
    exact isReal_zero
  · refine IsReal.mul (isReal_centred ht c) ?_
    rcases var_cases x with h | ⟨v, hv, h⟩
    · exact absurd h ht
    · rw [h, ← EReal.coe_add]
      have hp : (0 : ℝ) < v + 2748779 / 274877906944 := by positivity
      rw [rsqrt_pos hp]
      exact isReal_coe _

/-- A linear layer's entry, without its shift. -/
def lin {n m : ℕ} (x : Fin n → EReal) (w : Fin n → Fin m → EReal) (c : Fin m) : EReal := ∑ k, x k * w k c

theorem isReal_lin {n m : ℕ} {x : Fin n → EReal} {w : Fin n → Fin m → EReal} (hx : ∀ k, IsReal (x k)) (hw : ∀ k c, IsReal (w k c))
    (c : Fin m) : IsReal (lin x w c) := IsReal.sum _ fun k => (hx k).mul (hw k c)

/-- The gelu, as the reference computes it. -/
def gelu (h : EReal) : EReal :=
  Ideal.ofBits .f32 1056964608#32 * h
    * (1 + Ideal.tanh (Ideal.ofBits .f32 1061962282#32 * (h + Ideal.ofBits .f32 1027024659#32 * (h * h * h))))

/-- The kernel's hyperbolic tangent inside the gelu; `κ` is the product of the two constants. -/
def geluT (κ h : EReal) : EReal := Ideal.tanh (h * (Ideal.ofBits .f32 1061962282#32 + κ * (h * h)))

/-- The gelu, as the kernel computes it. -/
def geluK (κ h : EReal) : EReal := Ideal.ofBits .f32 1056964608#32 * h * geluT κ h + Ideal.ofBits .f32 1056964608#32 * h

theorem geluK_eq {h : EReal} (hh : IsReal h) : geluK ((80338380498831 / 2251799813685248 : ℝ) : EReal) h = gelu h := by
  obtain ⟨r, rfl⟩ := hh
  rw [geluK, gelu, geluT, ofBits_half, ofBits_root, ofBits_cubic]
  have e : r * (6693141 / 8388608 + 80338380498831 / 2251799813685248 * (r * r))
      = 6693141 / 8388608 * (r + 12003091 / 268435456 * (r * r * r)) := by ring
  simp only [← EReal.coe_mul, ← EReal.coe_add, e, tanh_coe, ← EReal.coe_one]
  exact congrArg _ (by ring)

/-- The two-layer block on a row, with its residual: `x + (gelu (norm x · w₁ + b₁) · w₂ + b₂)`. -/
def mlp (x g b : Fin 128 → EReal) (w1 : Fin 128 → Fin 512 → EReal) (b1 : Fin 512 → EReal) (w2 : Fin 512 → Fin 128 → EReal)
    (b2 : Fin 128 → EReal) (c : Fin 128) : EReal :=
  x c + (lin (fun k => gelu (lin (norm x g b) w1 k + b1 k)) w2 c + b2 c)

/-- The same block as the kernel computes it. -/
def mlpK (κ : EReal) (x g b : Fin 128 → EReal) (w1 : Fin 128 → Fin 512 → EReal) (b1 : Fin 512 → EReal) (w2 : Fin 512 → Fin 128 → EReal)
    (b2 : Fin 128 → EReal) (c : Fin 128) : EReal :=
  x c + lin (fun k => geluK κ (lin (normK x g b) w1 k + b1 k)) w2 c + b2 c

theorem mlpK_eq (x : Fin 128 → EReal) {g b : Fin 128 → EReal} {w1 : Fin 128 → Fin 512 → EReal} {b1 : Fin 512 → EReal}
    (w2 : Fin 512 → Fin 128 → EReal) (b2 : Fin 128 → EReal) (hg : ∀ c, IsReal (g c)) (hb : ∀ c, IsReal (b c))
    (hw : ∀ k c, IsReal (w1 k c)) (hb1 : ∀ c, IsReal (b1 c)) (c : Fin 128) :
    mlpK ((80338380498831 / 2251799813685248 : ℝ) : EReal) x g b w1 b1 w2 b2 c = mlp x g b w1 b1 w2 b2 c := by
  have hn : normK x g b = norm x g b := funext (normK_eq x g b)
  have hk (k) : geluK ((80338380498831 / 2251799813685248 : ℝ) : EReal) (lin (norm x g b) w1 k + b1 k)
      = gelu (lin (norm x g b) w1 k + b1 k) :=
    geluK_eq ((isReal_lin (isReal_norm x hg hb) hw k).add (hb1 k))
  simp only [mlpK, mlp, hn, hk, add_assoc]

end Cert.Spec
-- ==== Proof.Choice.lean ====
/-
The first least of finitely many numbers: the kernel finds it as the least of the places holding the minimum, the reference by folding
over (value, place) pairs. Both come out at the same place.
-/
module

public import proofs.«01_k».proof.Proof.Reals

@[expose] public section

noncomputable section

namespace Cert.Spec

open Idealize.ShloMosaic

variable {n : ℕ}

/-- Place `k` holds the least value, and no earlier place does. -/
def IsFirstMin (d : Fin n → EReal) (k : Fin n) : Prop := ∀ j, d k ≤ d j ∧ (d j = d k → k ≤ j)

theorem exists_isFirstMin [NeZero n] (d : Fin n → EReal) : ∃ k, IsFirstMin d k := by
  classical
  obtain ⟨k0, -, h0⟩ := Finset.exists_min_image (Finset.univ : Finset (Fin n)) d ⟨0, Finset.mem_univ _⟩
  obtain ⟨k, hk, h1⟩ := Finset.exists_min_image (Finset.univ.filter fun j => d j = d k0) id ⟨k0, by simp⟩
  have hk : d k = d k0 := by simpa using hk
  exact ⟨k, fun j => ⟨hk ▸ h0 j (Finset.mem_univ _), fun e => h1 j (by simpa using e.trans hk)⟩⟩

/-- The place of the first least value. -/
def first [NeZero n] (d : Fin n → EReal) : Fin n := (exists_isFirstMin d).choose

theorem first_spec [NeZero n] (d : Fin n → EReal) : IsFirstMin d (first d) := (exists_isFirstMin d).choose_spec

/-- The least of finitely many signed words is one of them, or the bound, and no greater than any. -/
theorem fold_minsi {ι : Type} [DecidableEq ι] (s : Finset ι) (b : BitVec 32) (f : ι → BitVec 32) :
    (s.fold IntOp.minsi b f = b ∨ ∃ i ∈ s, s.fold IntOp.minsi b f = f i)
      ∧ (s.fold IntOp.minsi b f).toInt ≤ b.toInt ∧ ∀ i ∈ s, (s.fold IntOp.minsi b f).toInt ≤ (f i).toInt := by
  induction s using Finset.induction_on with
  | empty => simp
  | insert a s ha ih =>
    obtain ⟨h1, h2, h3⟩ := ih
    rw [Finset.fold_insert ha]
    generalize s.fold IntOp.minsi b f = q at *
    by_cases hq : (f a).slt q = true
    · have e : IntOp.minsi (f a) q = f a := by simp [IntOp.minsi, hq]
      have hlt : (f a).toInt < q.toInt := by simpa [BitVec.slt] using hq
      rw [e]
      refine ⟨Or.inr ⟨a, Finset.mem_insert_self _ _, rfl⟩, by omega, fun i hi => ?_⟩
      rcases Finset.mem_insert.1 hi with rfl | hi
      · exact le_rfl
      · have := h3 i hi; omega
    · have e : IntOp.minsi (f a) q = q := by simp [IntOp.minsi, hq]
      have hle : q.toInt ≤ (f a).toInt := by simpa [BitVec.slt] using hq
      rw [e]
      refine ⟨h1.imp id fun ⟨i, hi, e⟩ => ⟨i, Finset.mem_insert_of_mem hi, e⟩, h2, fun i hi => ?_⟩
      rcases Finset.mem_insert.1 hi with rfl | hi
      · exact hle
      · exact h3 i hi

theorem toInt_ofNat {k : ℕ} (h : k < 513) : (BitVec.ofNat 32 k).toInt = k := by
  have hk : (BitVec.ofNat 32 k).toNat = k := by rw [BitVec.toNat_ofNat]; omega
  rw [BitVec.toInt_eq_toNat_of_lt (by omega), hk]

/-- The least value, from a start at infinity. -/
theorem fold_min_eq {d : Fin n → EReal} {k : Fin n} (h : IsFirstMin d k) : Finset.univ.fold min ⊤ d = d k := by
  have : Finset.univ.fold min ⊤ d = Finset.univ.inf d := rfl
  rw [this]
  exact le_antisymm (Finset.inf_le (Finset.mem_univ k)) (Finset.le_inf fun j _ => (h j).1)

/-- The kernel's way: the least place at which the minimum stands. -/
theorem fold_place {d : Fin 513 → EReal} {k : Fin 513} (h : IsFirstMin d k) :
    Finset.univ.fold IntOp.minsi 2147483647#32 (fun j => if d j = Finset.univ.fold min ⊤ d then BitVec.ofNat 32 j.val else 513#32)
      = BitVec.ofNat 32 k.val := by
  rw [fold_min_eq h]
  obtain ⟨h1, h2, h3⟩ := fold_minsi Finset.univ 2147483647#32 fun j : Fin 513 => if d j = d k then BitVec.ofNat 32 j.val else 513#32
  generalize Finset.univ.fold IntOp.minsi 2147483647#32 (fun j : Fin 513 => if d j = d k then BitVec.ofNat 32 j.val else 513#32) = q at *
  apply BitVec.eq_of_toInt_eq
  have hk := h3 k (Finset.mem_univ _)
  rw [if_pos rfl] at hk
  refine le_antisymm hk ?_
  rw [toInt_ofNat k.isLt]
  have := k.isLt
  rcases h1 with rfl | ⟨j, -, rfl⟩
  · have : (2147483647#32).toInt = 2147483647 := by decide
    omega
  · split
    · next e =>
      rw [toInt_ofNat j.isLt]
      exact_mod_cast (h j).2 e
    · have : (513#32).toInt = 513 := by decide
      omega

/-- One pair stands before another: by value, then by place. -/
def Before (p q : EReal × BitVec 32) : Prop := p.1 < q.1 ∨ p.1 = q.1 ∧ p.2.toInt ≤ q.2.toInt

theorem Before.refl (p : EReal × BitVec 32) : Before p p := Or.inr ⟨rfl, le_rfl⟩

theorem Before.trans {p q r : EReal × BitVec 32} (h : Before p q) (h' : Before q r) : Before p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A step that keeps one of its two pairs, and that one before both, folds a list to one of its pairs, or the start, before all. -/
theorem foldl_before (f : EReal × BitVec 32 → EReal × BitVec 32 → EReal × BitVec 32)
    (hf : ∀ a b, (f a b = a ∧ Before a b) ∨ (f a b = b ∧ Before b a)) (l : List (EReal × BitVec 32)) (a : EReal × BitVec 32) :
    (l.foldl f a = a ∨ l.foldl f a ∈ l) ∧ Before (l.foldl f a) a ∧ ∀ p ∈ l, Before (l.foldl f a) p := by
  induction l generalizing a with
  | nil => exact ⟨Or.inl rfl, Before.refl _, by simp⟩
  | cons b l ih =>
    obtain ⟨h1, h2, h3⟩ := ih (f a b)
    rw [List.foldl_cons]
    have hab : Before (f a b) a ∧ Before (f a b) b := by
      rcases hf a b with ⟨e, h⟩ | ⟨e, h⟩ <;> rw [e]
      · exact ⟨Before.refl _, h⟩
      · exact ⟨h, Before.refl _⟩
    refine ⟨?_, h2.trans hab.1, fun p hp => ?_⟩
    · rcases h1 with e | e
      · rcases hf a b with ⟨e', -⟩ | ⟨e', -⟩ <;> rw [e'] at e
        · exact Or.inl (by rw [e']; exact e)
        · exact Or.inr (by rw [e', e]; exact List.mem_cons_self)
      · exact Or.inr (List.mem_cons_of_mem _ e)
    · rcases List.mem_cons.1 hp with rfl | hp
      · exact h2.trans hab.2
      · exact h3 p hp

/-- The reference's way: the fold over the pairs of a row, in any order, from (infinity, 0). -/
theorem foldl_place (f : EReal × BitVec 32 → EReal × BitVec 32 → EReal × BitVec 32)
    (hf : ∀ a b, (f a b = a ∧ Before a b) ∨ (f a b = b ∧ Before b a)) (l : List (EReal × BitVec 32)) {d : Fin 513 → EReal}
    (hl : ∀ p, p ∈ l ↔ ∃ j : Fin 513, p = (d j, BitVec.ofNat 32 j.val)) {k : Fin 513} (h : IsFirstMin d k) :
    (l.foldl f (⊤, 0#32)).2 = BitVec.ofNat 32 k.val := by
  obtain ⟨h1, -, h3⟩ := foldl_before f hf l (⊤, 0#32)
  have hk := h3 _ ((hl _).2 ⟨k, rfl⟩)
  generalize l.foldl f (⊤, 0#32) = q at *
  rcases h1 with rfl | h1
  · rcases hk with hk | ⟨hk, -⟩
    · exact absurd hk not_top_lt
    · have h0 := (h 0)
      have hk : d k = ⊤ := hk.symm
      rw [hk, top_le_iff] at h0
      have := h0.2 h0.1
      have : k = 0 := by simpa using this
      rw [this]; rfl
  · obtain ⟨j, rfl⟩ := (hl _).1 h1
    have hj := h j
    rcases hk with hk | ⟨hk, hi⟩
    · exact absurd hk hj.1.not_gt
    · have h2 := hj.2 hk
      simp only [toInt_ofNat j.isLt, toInt_ofNat k.isLt] at hi
      have : j = k := le_antisymm (by exact_mod_cast hi) h2
      rw [this]

/-- The squared distance of a point to a codebook row, by the expanded square. -/
def dist (z : Fin 2 → EReal) (cb : Fin 513 → Fin 2 → EReal) (j : Fin 513) : EReal :=
  ∑ k, z k * z k - Ideal.ofBits .f32 1073741824#32 * ∑ k, z k * cb j k + ∑ k, cb j k * cb j k

end Cert.Spec
-- ==== Proof.Attend.lean ====
/-
The attention of one row over its values: the softmax less the greatest score, as the reference computes it, against the
exponentials to base 2 divided once by their sum, as the kernel does. They agree when the scores are real; the values may be anything.
-/
module

public import proofs.«01_k».proof.Proof.Reals

@[expose] public section

noncomputable section

namespace Cert.Spec

open Idealize.ShloMosaic

variable {n : ℕ}

/-- The weight of entry `j` under the softmax that takes the greatest score off first. -/
def soft (s : Fin n → EReal) (j : Fin n) : EReal :=
  Ideal.div (Ideal.exp (s j - max ⊥ (Finset.univ.fold max ⊥ s))) (∑ i, Ideal.exp (s i - max ⊥ (Finset.univ.fold max ⊥ s)))

/-- The weighted values as the kernel computes them, from scores to base 2. -/
def attendK (t v : Fin n → EReal) : EReal := (∑ j, Ideal.exp2 (t j) * v j) * Ideal.div 1 (∑ j, Ideal.exp2 (t j) * 1)

/-- The greatest of at least one real numbers is real. -/
theorem isReal_fold_max [NeZero n] {s : Fin n → EReal} (h : ∀ j, IsReal (s j)) : IsReal (max ⊥ (Finset.univ.fold max ⊥ s)) := by
  obtain ⟨j, -, hj⟩ := Finset.exists_mem_eq_sup (Finset.univ : Finset (Fin n)) ⟨0, Finset.mem_univ _⟩ s
  have : Finset.univ.fold max ⊥ s = s j := hj
  rw [this, max_eq_right bot_le]
  exact h j

/-- The base-2 scores hold the base change: each is the natural score over ln 2. -/
theorem attendK_eq [NeZero n] {s t : Fin n → EReal} (v : Fin n → EReal) {σ : Fin n → ℝ} (hs : ∀ j, s j = (σ j : EReal))
    (ht : ∀ j, t j = ((σ j * (Real.log 2)⁻¹ : ℝ) : EReal)) : attendK t v = ∑ j, soft s j * v j := by
  obtain ⟨M, hM⟩ := isReal_fold_max (s := s) fun j => ⟨σ j, hs j⟩
  have hl : Real.log 2 ≠ 0 := (Real.log_pos (by norm_num)).ne'
  have hK (j) : Ideal.exp2 (t j) = ((Real.exp (σ j) : ℝ) : EReal) := by
    rw [ht, exp2_coe]
    congr 1
    show (2 : ℝ) ^ (σ j * (Real.log 2)⁻¹) = _
    rw [Real.rpow_def_of_pos (by norm_num)]
    congr 1
    field_simp
  have hR (j) : Ideal.exp (s j - M) = ((Real.exp (σ j) * Real.exp (-M) : ℝ) : EReal) := by
    rw [hs, ← EReal.coe_sub, exp_coe, sub_eq_add_neg, Real.exp_add]
  have hS : 0 < ∑ j, Real.exp (σ j) := Finset.sum_pos (fun j _ => Real.exp_pos _) ⟨0, Finset.mem_univ _⟩
  have hsoft (j) : soft s j = ((Real.exp (σ j) * (∑ j, Real.exp (σ j))⁻¹ : ℝ) : EReal) := by
    rw [soft, hM]
    simp only [hR]
    rw [← coe_sum, ← Finset.sum_mul, div_coe _ (mul_pos hS (Real.exp_pos _)).ne', ← EReal.coe_mul]
    congr 1
    have := (Real.exp_pos (-M)).ne'
    field_simp
  rw [attendK]
  simp only [hK, hsoft, mul_one]
  rw [← coe_sum, ← EReal.coe_one, div_coe _ hS.ne', ← EReal.coe_mul, one_mul, sum_mul_pos _ _ (inv_pos.2 hS)]
  refine Finset.sum_congr rfl fun j _ => ?_
  rw [EReal.coe_mul, mul_assoc, mul_assoc, mul_comm (v j)]

/-- A score of real vectors, scaled by 1/8 after the product, and its base-2 form, whose first vector is scaled before. -/
theorem scores_eq {m : ℕ} {a b : Fin m → EReal} (ha : ∀ x, IsReal (a x)) (hb : ∀ x, IsReal (b x)) :
    ∃ σ : ℝ, (∑ x, a x * b x) * Ideal.ofBits .f32 1040187392#32 = (σ : EReal)
      ∧ (∑ x, a x * (((1 / 8) * (Real.log 2)⁻¹ : ℝ) : EReal) * b x) = ((σ * (Real.log 2)⁻¹ : ℝ) : EReal) := by
  choose p hp using ha
  choose q hq using hb
  refine ⟨(∑ x, p x * q x) * (1 / 8), ?_, ?_⟩
  · rw [ofBits_eighth]
    simp only [hp, hq, ← EReal.coe_mul, ← coe_sum]
  · simp only [hp, hq, ← EReal.coe_mul, ← coe_sum]
    congr 1
    rw [Finset.sum_mul, Finset.sum_mul]
    exact Finset.sum_congr rfl fun x _ => by ring

end Cert.Spec
-- ==== Proof.KerRead.lean ====
/-
What the kernel's body computes from one point's blocks, read at an index: each entry is the row function of the mathematics at the
rows of the blocks.
-/
module

public import proofs.«01_k».proof.Proof.KernelIdealRun
public import proofs.«01_k».proof.Proof.Norm
public import proofs.«01_k».proof.Proof.Choice
public import proofs.«01_k».proof.Proof.Attend

@[expose] public section

set_option maxRecDepth 16384

noncomputable section

namespace Cert.KernelIdeal.Gen

open Cert.KernelIdeal Cert.KernelIdeal.Gen Cert.Spec Idealize.ShloMosaic

/-- The gelu's cubic coefficient, exactly. -/
theorem named_cubic (w : BitVec 32) : (Named.named (F := Ideal) κ "gelu_cubic" (φ := .f32) w : EReal)
    = ((80338380498831 / 2251799813685248 : ℝ) : EReal) := rfl

/-- The scores' scale, exactly. -/
theorem named_scale (w : BitVec 32) : (Named.named (F := Ideal) κ "softmax_scale" (φ := .f32) w : EReal)
    = (((1 / 8) * (Real.log 2)⁻¹ : ℝ) : EReal) := rfl

variable (x0 : Vec Ideal S1x1500x128 .f32) (x1 : Vec Ideal S1x1500x1 .f32) (x2 : Vec Ideal S1x128 .f32) (x3 : Vec Ideal S1x128 .f32)
  (x4 : Vec Ideal S128x512 .f32) (x5 : Vec Ideal S1x512 .f32) (x6 : Vec Ideal S512x128 .f32) (x7 : Vec Ideal S1x128 .f32)
  (x8 : Vec Ideal S128x2 .f32) (x9 : Vec Ideal S1x2 .f32) (x10 : Vec Ideal S2x128 .f32) (x11 : Vec Ideal S1x128 .f32)
  (x12 : Vec Ideal S513x2 .f32) (x13 : Vec Ideal S1500x128 .f32) (x14 : Vec Ideal S1x128 .f32) (x15 : Vec Ideal S1x128 .f32)

theorem hidden_at (r : Fin 1500) (c : Fin 512) :
    k0_pay26 x0 x2 x3 x4 x5 (ix2 r c)
      = lin (normK (fun k => x0 (ix3 0 r k)) (fun k => x2 (ix2 0 k)) fun k => x3 (ix2 0 k)) (fun k j => x4 (ix2 k j)) c + x5 (ix2 0 c) := by
  pointwise [k0_pay26, k0_pay3, k0_pay2, lin, normK, var, Spec.mean]

theorem tanh_at (r : Fin 1500) (c : Fin 512) :
    k0_pay27 x0 x2 x3 x4 x5 (ix2 r c)
      = geluT ((80338380498831 / 2251799813685248 : ℝ) : EReal) (k0_pay26 x0 x2 x3 x4 x5 (ix2 r c)) := by
  rw [← named_cubic 0x3D122279#32]
  pointwise [k0_pay27, k0_pay4, k0_pay26, geluT]

/-- The codebook-space point of each row. -/
theorem point_at (r : Fin 1500) (c : Fin 2) :
    k0_pay29 x0 x2 x3 x4 x5 x6 x7 x8 x9 (ix2 r c)
      = lin (mlpK ((80338380498831 / 2251799813685248 : ℝ) : EReal) (fun k => x0 (ix3 0 r k)) (fun k => x2 (ix2 0 k)) (fun k => x3 (ix2 0 k))
          (fun k j => x4 (ix2 k j)) (fun k => x5 (ix2 0 k)) (fun k j => x6 (ix2 k j)) fun k => x7 (ix2 0 k)) (fun k j => x8 (ix2 k j)) c
        + x9 (ix2 0 c) := by
  have h := fun k => hidden_at x0 x2 x3 x4 x5 r k
  have ht := fun k => tanh_at x0 x2 x3 x4 x5 r k
  pointwise [k0_pay29, k0_pay5, k0_pay25, k0_pay2, mlpK, geluK]
  simp only [ht, h, lin]
  rfl

/-- The number of the nearest codebook row. -/
theorem number_at (r : Fin 1500) :
    k0_pay30 x0 x2 x3 x4 x5 x6 x7 x8 x9 x12 (ix2 r 0)
      = BitVec.ofNat 32 (first (dist (fun k => k0_pay29 x0 x2 x3 x4 x5 x6 x7 x8 x9 (ix2 r k)) fun j k => x12 (ix2 j k))).val := by
  rw [← fold_place (first_spec _)]
  pointwise [k0_pay30, k0_pay6, k0_pay29, Spec.dist]
  rw [ofBits_top]

/-- The one-hot entry. -/
theorem onehot_entry (j k : Fin 513) :
    (FloatOps.sitofp (F := Ideal) .f32 (BitVec.setWidth 32 (IntOp.cmpi .eq (BitVec.ofNat 32 j.val) (BitVec.ofNat 32 k.val))) : EReal)
      = if j = k then 1 else 0 := by
  have hj := j.isLt
  have hk := k.isLt
  by_cases h : j = k
  · subst h
    have e : BitVec.setWidth 32 (IntOp.cmpi .eq (BitVec.ofNat 32 j.val) (BitVec.ofNat 32 j.val)) = 1#32 := by simp [IntOp.cmpi]
    rw [e, if_pos rfl]
    show (((1#32).toInt : ℝ) : EReal) = 1
    simp
  · have hne : BitVec.ofNat 32 j.val ≠ BitVec.ofNat 32 k.val := fun e => h (Fin.ext (by
      have := congrArg BitVec.toNat e
      simp only [BitVec.toNat_ofNat] at this
      omega))
    have e : BitVec.setWidth 32 (IntOp.cmpi .eq (BitVec.ofNat 32 j.val) (BitVec.ofNat 32 k.val)) = 0#32 := by
      simp only [IntOp.cmpi, beq_false_of_ne hne]
      rfl
    rw [e, if_neg h]
    show (((0#32).toInt : ℝ) : EReal) = 0
    simp

/-- The codebook's rows, taken by a one-hot product. -/
theorem onehot_at (v50 : Vec Ideal S513x2 .f32) (v78 : IVec S1500x1 32) {r : Fin 1500} {k : Fin 513}
    (h : v78 (ix2 r 0) = BitVec.ofNat 32 k.val) (c : Fin 2) : k0_pay8 v50 k0_pay28 v78 (ix2 r c) = v50 (ix2 k c) := by
  pointwise [k0_pay8, k0_pay28]
  rw [h]
  simp only [onehot_entry, ite_mul, one_mul, zero_mul, Finset.sum_ite_eq', Finset.mem_univ, if_true]

variable {x12} in
theorem commit_at {f : Fin 1500 → Fin 513} (h : ∀ r, k0_pay30 x0 x2 x3 x4 x5 x6 x7 x8 x9 x12 (ix2 r 0) = BitVec.ofNat 32 (f r).val) (c : Fin 128) :
    k0_pay9 (View.ld x12 r0_5) (k0_pay29 x0 x2 x3 x4 x5 x6 x7 x8 x9) k0_pay28 (k0_pay30 x0 x2 x3 x4 x5 x6 x7 x8 x9 x12) (ix3 0 0 c)
      = ∑ r : Fin 1500, ∑ k : Fin 2, (x12 (ix2 (f r) k) - k0_pay29 x0 x2 x3 x4 x5 x6 x7 x8 x9 (ix2 r k))
          * (x12 (ix2 (f r) k) - k0_pay29 x0 x2 x3 x4 x5 x6 x7 x8 x9 (ix2 r k)) := by
  have ho := fun r k => onehot_at (View.ld x12 r0_5) _ (h r) k
  pointwise [k0_pay9]
  simp only [ho]
  pointwise

variable {x12} in
theorem embed_at {r : Fin 1500} {k : Fin 513} (h : k0_pay30 x0 x2 x3 x4 x5 x6 x7 x8 x9 x12 (ix2 r 0) = BitVec.ofNat 32 k.val) (c : Fin 128) :
    k0_pay31 x0 x1 x2 x3 x4 x5 x6 x7 x8 x9 x10 x11 x12 x13 (ix2 r c)
      = (∑ d : Fin 2, (if 0 < x1 (ix3 0 r 0) then k0_pay29 x0 x2 x3 x4 x5 x6 x7 x8 x9 (ix2 r d)
            + (x12 (ix2 k d) - k0_pay29 x0 x2 x3 x4 x5 x6 x7 x8 x9 (ix2 r d)) else x12 (ix2 512 d)) * x10 (ix2 d c))
        + x11 (ix2 0 c) + x13 (ix2 r c) := by
  have ho := fun d => onehot_at (View.ld x12 r0_5) _ h d
  pointwise [k0_pay31, k0_pay10]
  simp only [ho]
  pointwise

end Cert.KernelIdeal.Gen
-- ==== Proof.KerAttend.lean ====
/-
The kernel's attention, its second two-layer block and its last norm, read at an index.
-/
module

public import proofs.«01_k».proof.Proof.KerRead

@[expose] public section

set_option maxRecDepth 16384

noncomputable section

namespace Cert.KernelIdeal.Gen

open Cert.KernelIdeal Cert.KernelIdeal.Gen Cert.Spec Idealize.ShloMosaic

variable (v116 : FVec Ideal S1500x128 .f32) (g b : Vec Ideal S1x128 .f32) (wq wk wv wo : Vec Ideal S128x128 .f32)

/-- A normed row of the attention's input. -/
abbrev nrm (r : Fin 1500) : Fin 128 → EReal := normK (fun k => v116 (ix2 r k)) (fun k => g (ix2 0 k)) fun k => b (ix2 0 k)

theorem query_at (r : Fin 1500) (c : Fin 128) : k0_pay12 v116 g b wq (ix2 r c)
    = lin (nrm v116 g b r) (fun k j => wq (ix2 k j)) c * (((1 / 8) * (Real.log 2)⁻¹ : ℝ) : EReal) := by
  rw [← named_scale 0x3E38AA3B#32]
  pointwise [k0_pay12, k0_pay11, lin, normK, var, Spec.mean]

theorem key_at (r : Fin 1500) (c : Fin 128) : k0_pay13 v116 g b wk (ix2 r c)
    = lin (nrm v116 g b r) (fun k j => wk (ix2 k j)) c := by
  pointwise [k0_pay13, k0_pay11, lin, normK, var, Spec.mean]

theorem value_at (r : Fin 1500) (c : Fin 128) : k0_pay14 v116 g b wv (ix2 r c)
    = lin (nrm v116 g b r) (fun k j => wv (ix2 k j)) c := by
  pointwise [k0_pay14, k0_pay11, lin, normK, var, Spec.mean]

/-- The scores to base 2 of one row against all, in head `h`. -/
def baseTwo (q k : FVec Ideal S1500x128 .f32) (h : Fin 2) (r j : Fin 1500) : EReal :=
  ∑ x : Fin 64, q (ix2 r ⟨h.val * 64 + x.val, by omega⟩) * k (ix2 j ⟨h.val * 64 + x.val, by omega⟩)

/-- The attention of the body, with its residual. -/
theorem attend_at (r : Fin 1500) (c : Fin 128) :
    k0_pay17 v116 (k0_pay12 v116 g b wq) (k0_pay13 v116 g b wk) (k0_pay14 v116 g b wv) k0_pay35 (k0_pay16 v116 g b wq wk wv) wo (ix2 r c)
      = v116 (ix2 r c) + ∑ d : Fin 128,
          attendK (baseTwo (k0_pay12 v116 g b wq) (k0_pay13 v116 g b wk) ⟨d.val / 64, by omega⟩ r)
            (fun j => k0_pay14 v116 g b wv (ix2 j d)) * wo (ix2 d c) := by
  pointwise [k0_pay17, k0_pay16, k0_pay15, k0_pay35, attendK, baseTwo]
  refine congrArg _ (Finset.sum_congr rfl fun d _ => congrArg (· * _) ?_)
  have hd := d.isLt
  by_cases h : d.val < 64
  · have hq : d.val / 64 * 64 = 0 := by omega
    simp only [dif_pos h, hq, zero_add]
    rfl
  · have hq : d.val / 64 * 64 = 64 := by omega
    have h' : d.val - 64 < 64 := by omega
    have e : (⟨64 + (d.val - 64), by omega⟩ : Fin 128) = d := Fin.ext (by show 64 + (d.val - 64) = d.val; omega)
    simp only [dif_neg h, dif_pos h', hq, e]
    rfl

/-- The normed and not yet scaled rows of the attention's result. -/
theorem quotient_at (v144 v146 v148 : FVec Ideal S1500x128 .f32) (v149 : FVec Ideal S1500x1 .f32) (v156 : FVec Ideal S1500x65 .f32)
    (r : Fin 1500) (c : Fin 128) :
    k0_pay19 v116 v144 v146 v148 v149 v156 wo (ix2 r c)
      = (k0_pay17 v116 v144 v146 v148 v149 v156 wo (ix2 r c) - Spec.mean fun k => k0_pay17 v116 v144 v146 v148 v149 v156 wo (ix2 r k))
        * Ideal.rsqrt (var (fun k => k0_pay17 v116 v144 v146 v148 v149 v156 wo (ix2 r k)) + Ideal.ofBits .f32 925353388#32) := by
  pointwise [k0_pay19, var, Spec.mean]

variable (v179 : FVec Ideal S1500x128 .f32) (w1 : Vec Ideal S128x512 .f32) (b1 : Vec Ideal S1x512 .f32) (w2 : Vec Ideal S512x128 .f32)
  (b2 lg lb : Vec Ideal S1x128 .f32)

/-- The second two-layer block's row. -/
abbrev ffnRow (r : Fin 1500) : Fin 128 → EReal :=
  mlpK ((80338380498831 / 2251799813685248 : ℝ) : EReal) (fun k => v179 (ix2 r k)) (fun k => g (ix2 0 k)) (fun k => b (ix2 0 k))
    (fun k j => w1 (ix2 k j)) (fun k => b1 (ix2 0 k)) (fun k j => w2 (ix2 k j)) fun k => b2 (ix2 0 k)

/-- The second two-layer block, less its row's mean. -/
theorem ffn_at {v199 : FVec Ideal S1500x128 .f32} {r : Fin 1500}
    (h : ∀ k, v199 (ix2 r k) = (v179 (ix2 r k) - Spec.mean fun k => v179 (ix2 r k))
      * Ideal.rsqrt (var (fun k => v179 (ix2 r k)) + Ideal.ofBits .f32 925353388#32)) (c : Fin 128) :
    k0_pay23 v179 (k0_pay18 b) v199 (k0_pay20 g) w1 b1 w2 b2 (ix2 r c)
      = ffnRow g b v179 w1 b1 w2 b2 r c - Spec.mean (ffnRow g b v179 w1 b1 w2 b2 r) := by
  have hf : ffnRow g b v179 w1 b1 w2 b2 r = fun c => v179 (ix2 r c)
      + lin (fun k => geluK ((80338380498831 / 2251799813685248 : ℝ) : EReal)
          (lin (fun k => v199 (ix2 r k) * g (ix2 0 k) + b (ix2 0 k)) (fun k j => w1 (ix2 k j)) k + b1 (ix2 0 k)))
        (fun k j => w2 (ix2 k j)) c + b2 (ix2 0 c) := by
    funext c
    simp only [h]
    rfl
  rw [hf, ← named_cubic 0x3D122279#32]
  pointwise [k0_pay23, k0_pay18, k0_pay20, Spec.mean, lin, geluK, geluT]

/-- The last norm. -/
theorem last_at (A : FVec Ideal S1500x128 .f32) (B : FVec Ideal S1500x1 .f32) {f : Fin 128 → EReal} {r : Fin 1500}
    (hA : ∀ c, A (ix2 r c) = f c - Spec.mean f) (hB : B (ix2 r 0) = ∑ k, A (ix2 r k) * A (ix2 r k)) (c : Fin 128) :
    k0_pay1 (k0_pay21 lg) (k0_pay22 lb) A B (ix3 0 r c) = normK f (fun k => lg (ix2 0 k)) (fun k => lb (ix2 0 k)) c := by
  simp only [hA] at hB
  pointwise [k0_pay1, k0_pay21, k0_pay22, normK, var]
  rw [hA, hB]

/-- The sum of squares the last norm takes. -/
theorem squares_at (v183 : FVec Ideal S1x128 .f32) (v199 v200 : FVec Ideal S1500x128 .f32) (r : Fin 1500) :
    k0_pay24 v179 v183 v199 v200 w1 b1 w2 b2 (ix2 r 0)
      = ∑ k, k0_pay23 v179 v183 v199 v200 w1 b1 w2 b2 (ix2 r k) * k0_pay23 v179 v183 v199 v200 w1 b1 w2 b2 (ix2 r k) := by
  pointwise [k0_pay24]

end Cert.KernelIdeal.Gen
-- ==== Proof.RefRead.lean ====
/-
The reference's stages read at an index: each entry is the row function of the mathematics at the rows of the arrays.
-/
module

public import proofs.«01_k».proof.Proof.RefStages
public import proofs.«01_k».proof.Proof.Norm
public import proofs.«01_k».proof.Proof.Choice

@[expose] public section

set_option maxRecDepth 16384

noncomputable section

namespace Cert.ReferenceIdeal.Stage

open Cert.ReferenceIdeal Cert.ReferenceIdeal.Gen Cert.Spec Idealize.ShloMosaic

/-- The divisor of the variance is 128, which is above 0. -/
theorem count_eq : Ideal.ofBits FTy.f32 1124073472#32 - FloatOps.sitofp FTy.f32 (0#32) = Ideal.ofBits FTy.f32 1124073472#32 := by
  rw [ofBits_128]
  show ((128 : ℝ) : EReal) - (((0#32).toInt : ℝ) : EReal) = _
  simp

theorem count_pos : (0 : EReal) < Ideal.ofBits FTy.f32 1124073472#32 := by
  rw [ofBits_128]; exact_mod_cast (by norm_num : (0 : ℝ) < 128)

theorem layerNorm_at (x : FVec Ideal S8x1500x128 .f32) (g b : FVec Ideal S128 .f32) (e : Fin 8) (r : Fin 1500) (c : Fin 128) :
    layerNorm x g b (ix3 e r c) = norm (fun k => x (ix3 e r k)) (fun k => g (ix1 k)) (fun k => b (ix1 k)) c := by
  pointwise [layerNorm, centred, variance, mean, count, wide128, Spec.norm, var, Spec.mean]
  rw [count_eq, if_pos count_pos]

/-- A two-layer block with its residual. -/
theorem mlp_at (x : FVec Ideal S8x1500x128 .f32) (g b : FVec Ideal S128 .f32) (w1 : FVec Ideal S128x512 .f32) (b1 : FVec Ideal S512 .f32)
    (w2 : FVec Ideal S512x128 .f32) (b2 : FVec Ideal S128 .f32) (e : Fin 8) (r : Fin 1500) (c : Fin 128) :
    addf x (dense128 (gelu (dense512 (layerNorm x g b) w1 b1)) w2 b2) (ix3 e r c)
      = mlp (fun k => x (ix3 e r k)) (fun k => g (ix1 k)) (fun k => b (ix1 k)) (fun k j => w1 (ix2 k j)) (fun k => b1 (ix1 k))
        (fun k j => w2 (ix2 k j)) (fun k => b2 (ix1 k)) c := by
  have h := fun k => layerNorm_at x g b e r k
  pointwise [dense128, gelu, dense512, all512, wide128, wide512, mlp, lin, Spec.gelu]
  simp only [h]

theorem project_at (x : FVec Ideal S8x1500x128 .f32) (w : FVec Ideal S128x2 .f32) (b : FVec Ideal S2 .f32) (e : Fin 8) (r : Fin 1500)
    (c : Fin 2) :
    project x w b (ix3 e r c) = lin (fun k => x (ix3 e r k)) (fun k j => w (ix2 k j)) c + b (ix1 c) := by
  pointwise [project, lin]

theorem distances_at (z : FVec Ideal S8x1500x2 .f32) (cb : FVec Ideal S513x2 .f32) (e : Fin 8) (r : Fin 1500) (j : Fin 513) :
    distances z cb (ix3 e r j) = dist (fun k => z (ix3 e r k)) (fun j k => cb (ix2 j k)) j := by
  pointwise [distances, Spec.dist]

theorem commit_at (q z : FVec Ideal S8x1500x2 .f32) :
    commit q z ix0 = Ideal.div (∑ e : Fin 8, ∑ r : Fin 1500, ∑ c : Fin 2,
      (q (ix3 e r c) - z (ix3 e r c)) * (q (ix3 e r c) - z (ix3 e r c))) (Ideal.ofBits .f32 1186693120#32) := by
  pointwise [commit]

theorem embed_at (q z : FVec Ideal S8x1500x2 .f32) (w : FVec Ideal S2x128 .f32) (b : FVec Ideal S128 .f32) (cb : FVec Ideal S513x2 .f32)
    (mask : IVec S8x1500 1) (pos : FVec Ideal S1500x128 .f32) (e : Fin 8) (r : Fin 1500) (c : Fin 128) :
    embed (straight q z) w b cb mask pos (ix3 e r c)
      = (if mask (ix2 e r) = 1#1 then (∑ k, (z (ix3 e r k) + (q (ix3 e r k) - z (ix3 e r k))) * w (ix2 k c)) + b (ix1 c)
        else (∑ k, cb (ix2 512 k) * w (ix2 k c)) + b (ix1 c)) + pos (ix2 r c) := by
  pointwise [embed, straight, blank, wide128]
  rfl

end Cert.ReferenceIdeal.Stage
-- ==== Proof.RefSearch.lean ====
/-
The reference's search for the first nearest codebook row, and its gather of that row, read at an index.
-/
module

public import proofs.«01_k».proof.Proof.RefStages
public import proofs.«01_k».proof.Proof.Choice

@[expose] public section

set_option maxRecDepth 16384

noncomputable section

namespace Cert.ReferenceIdeal.Stage

open Cert.ReferenceIdeal Cert.ReferenceIdeal.Gen Cert.Spec Idealize.ShloMosaic

/-- One step of the reference's search keeps the pair that stands before the other. -/
theorem step_before (a b : EReal × BitVec 32) :
    (reducer_argmin_f32_i32 (F := Ideal) a b = a ∧ Before a b) ∨ (reducer_argmin_f32_i32 (F := Ideal) a b = b ∧ Before b a) := by
  obtain ⟨x, i⟩ := a
  obtain ⟨y, j⟩ := b
  simp only [reducer_argmin_f32_i32, Before]
  have h1 : FloatOps.cmpf (F := Ideal) (φ := .f32) .olt x y = if x < y then 1#1 else 0#1 := by
    by_cases h : x < y <;> simp [Ideal.cmpf_def, Ideal.cmp, h]
  have h2 : FloatOps.cmpf (F := Ideal) (φ := .f32) .une x x = 0#1 := by
    simp [Ideal.cmpf_def, Ideal.cmp]
  have h3 : FloatOps.cmpf (F := Ideal) (φ := .f32) .oeq x y = if x = y then 1#1 else 0#1 := by
    by_cases h : x = y <;> simp [Ideal.cmpf_def, Ideal.cmp, h]
  have h4 : IntOp.cmpi .slt i j = if i.toInt < j.toInt then 1#1 else 0#1 := by
    by_cases h : i.toInt < j.toInt <;> simp [IntOp.cmpi, BitVec.slt, h]
  rw [h1, h2, h3, h4]
  rcases lt_trichotomy x y with h | h | h
  · left; simp [h, h.ne, Scalar.select, IntOp.ori, IntOp.andi]
  · subst h
    by_cases hi : i.toInt < j.toInt
    · left; simp [hi, hi.le, Scalar.select, IntOp.ori, IntOp.andi]
    · right; simp [hi, not_lt.1 hi, Scalar.select, IntOp.ori, IntOp.andi]
  · right; simp [h, h.not_gt, h.ne', Scalar.select, IntOp.ori, IntOp.andi]
/-- The places a search over one axis ends at, for arrays of any shape. -/
def search {F : FTy → Type} [FloatOps F] {s t u : Shape} {axes : List (Fin s.rank)} (x : FVec F s .f32) (y : IVec s 32)
    (ix : FVec F u .f32) (iy : IVec u 32) (h : s.ReducesTo axes t) (hu : 0 < u.numel) : IVec t 32 := fun j =>
  (Host.argReduce reducer_argmin_f32_i32 x y ix iy h hu j).2

/-- A search over a row of 513, the row's indices given by `ι`, ends at the first least value. -/
theorem search_at {s t u : Shape} {axes : List (Fin s.rank)} (x : FVec Ideal s .f32) (y : IVec s 32) (ix : FVec Ideal u .f32)
    (iy : IVec u 32) (h : s.ReducesTo axes t) (hu : 0 < u.numel) (j : t.Idx) (ι : Fin 513 → s.Idx)
    (hι : ∀ i, h.drop i = j ↔ ∃ k, i = ι k) (hy : ∀ k, y (ι k) = BitVec.ofNat 32 k.val) (hx : ix (Shape.Idx.first hu) = ⊤)
    (hz : iy (Shape.Idx.first hu) = 0#32) :
    search x y ix iy h hu j = BitVec.ofNat 32 (first fun k => x (ι k)).val := by
  rw [search, Ideal.argReduce_eq_reduce2, Host.reduce2_eq_foldl_fiber, hx, hz]
  refine foldl_place _ step_before _ (d := fun k => x (ι k)) (fun p => ?_) (first_spec _)
  rw [Host.argReduceFiber]
  simp only [List.mem_map, List.mem_filter, List.mem_finRange, true_and, decide_eq_true_eq, hι]
  constructor
  · rintro ⟨n, ⟨k, hk⟩, rfl⟩
    exact ⟨k, by rw [hk, hy]⟩
  · rintro ⟨k, rfl⟩
    exact ⟨s.rowMajor (ι k), ⟨k, by simp⟩, by simp [hy]⟩

theorem nearest_eq (d : FVec Ideal S8x1500x513 .f32) :
    nearest d = search d (iotaInDim S8x1500x513 32 2) (constant S_ .f32 0x7F800000#32) (constantI S_ 32 0#32)
      reducesTo_S8x1500x513_S8x1500_d2 h_S_ := Eq.refl _

/-- The indices of a row of distances. -/
theorem drop_distances (e : Fin 8) (r : Fin 1500) (i : S8x1500x513.Idx) :
    reducesTo_S8x1500x513_S8x1500_d2.drop i = ix2 e r ↔ ∃ k, i = ix3 e r k := by
  have hd : reducesTo_S8x1500x513_S8x1500_d2.drop i = ix2 (i 0) (i 1) := by
    funext b
    fin_cases b <;> rfl
  rw [hd]
  constructor
  · intro h
    refine ⟨i 2, ?_⟩
    have h0 : i 0 = e := congrFun h 0
    have h1 : i 1 = r := congrFun h 1
    rw [← h0, ← h1]
    exact ValueIdx.eq_ix3 i
  · rintro ⟨k, rfl⟩
    rfl

theorem nearest_at (d : FVec Ideal S8x1500x513 .f32) (e : Fin 8) (r : Fin 1500) :
    nearest d (ix2 e r) = BitVec.ofNat 32 (first fun j => d (ix3 e r j)).val := by
  rw [nearest_eq]
  exact search_at _ _ _ _ _ _ _ (fun j => ix3 e r j) (drop_distances e r) (fun k => rfl) ofBits_top rfl

/-- The gather of a row whose number is in range. -/
theorem gather_at (cb : FVec Ideal S513x2 .f32) (i : IVec S8x1500x1 32) (e : Fin 8) (r : Fin 1500) (c : Fin 2) (k : Fin 513)
    (h : i (ix3 e r 0) = BitVec.ofNat 32 k.val) :
    Host.gather gather_S513x2_S8x1500x1_S8x1500x2_2_0_n_n_0_2_12 cb i (ix3 e r c) = cb (ix2 k c) := by
  have hi : gather_S513x2_S8x1500x1_S8x1500x2_2_0_n_n_0_2_12.siIdx (ix3 e r c) ⟨0, by decide⟩ = ix3 e r 0 := by
    funext b
    fin_cases b <;> rfl
  have h0 : gather_S513x2_S8x1500x1_S8x1500x2_2_0_n_n_0_2_12.start (ix3 e r c) i 0 = k.val := by
    show min (i (gather_S513x2_S8x1500x1_S8x1500x2_2_0_n_n_0_2_12.siIdx (ix3 e r c) ⟨0, by decide⟩)).toInt.toNat 512 = _
    rw [hi, h, toInt_ofNat k.isLt]
    have := k.isLt
    simp; omega
  have h1 : gather_S513x2_S8x1500x1_S8x1500x2_2_0_n_n_0_2_12.start (ix3 e r c) i 1 = 0 := rfl
  rw [Host.gather]
  congr 1
  funext a
  apply Fin.ext
  show (GatherDims.start _ _ _ a + GatherDims.batchCoord _ _ a + GatherDims.offCoord _ _ a : ℕ) = _
  fin_cases a
  · show GatherDims.start _ _ _ 0 + 0 + 0 = _
    rw [h0]; rfl
  · show GatherDims.start _ _ _ 1 + 0 + c.val = _
    rw [h1]; simp

/-- A row number in range is not negative and passes both bounds. -/
theorem inside_at : ∀ k : Fin 513, IntOp.andi
    (IntOp.cmpi .sge (Scalar.select (IntOp.cmpi .slt (BitVec.ofNat 32 k.val) 0#32) (IntOp.addi (BitVec.ofNat 32 k.val) 513#32)
      (BitVec.ofNat 32 k.val)) 0#32)
    (IntOp.cmpi .sle (Scalar.select (IntOp.cmpi .slt (BitVec.ofNat 32 k.val) 0#32) (IntOp.addi (BitVec.ofNat 32 k.val) 513#32)
      (BitVec.ofNat 32 k.val)) 512#32) = 1#1 := by decide +kernel

theorem not_negative : ∀ k : Fin 513, Scalar.select (IntOp.cmpi .slt (BitVec.ofNat 32 k.val) 0#32) (IntOp.addi (BitVec.ofNat 32 k.val) 513#32)
    (BitVec.ofNat 32 k.val) = BitVec.ofNat 32 k.val := by decide +kernel

theorem rowNumber_at {n : IVec S8x1500 32} {e : Fin 8} {r : Fin 1500} {k : Fin 513} (h : n (ix2 e r) = BitVec.ofNat 32 k.val) :
    rowNumber n (ix3 e r 0) = BitVec.ofNat 32 k.val := by
  pointwise [rowNumber]
  rw [h, not_negative]

theorem rows_at {n : IVec S8x1500 32} (cb : FVec Ideal S513x2 .f32) {e : Fin 8} {r : Fin 1500} {k : Fin 513}
    (h : n (ix2 e r) = BitVec.ofNat 32 k.val) (c : Fin 2) : rows n cb (ix3 e r c) = cb (ix2 k c) := by
  have hg := gather_at cb (rowNumber n) e r c k (rowNumber_at h)
  rw [← hg]
  pointwise [rows, inside, rowNumber]
  rw [h, inside_at]
  have hf : Finset.univ.fold IntOp.andi 1#1 (fun _ : Fin 1 => 1#1) = 1#1 := by decide
  rw [hf]
  rfl

end Cert.ReferenceIdeal.Stage
-- ==== Proof.RefAttend.lean ====
/-
The reference's attention read at an index.
-/
module

public import proofs.«01_k».proof.Proof.RefStages
public import proofs.«01_k».proof.Proof.Norm
public import proofs.«01_k».proof.Proof.Attend

@[expose] public section

set_option maxRecDepth 16384

noncomputable section

namespace Cert.ReferenceIdeal.Stage

open Cert.ReferenceIdeal Cert.ReferenceIdeal.Gen Cert.Spec Idealize.ShloMosaic

/-- The entry of a projection that head `h` holds at place `c`. -/
def headCol (h : Fin 2) (c : Fin 64) : Fin 128 := ⟨h.val * 64 + c.val, by omega⟩

theorem heads_at (y : FVec Ideal S8x1500x128 .f32) (w : FVec Ideal S128x128 .f32) (e : Fin 8) (h : Fin 2) (r : Fin 1500) (c : Fin 64) :
    heads y w (ix4 e h r c) = lin (fun k => y (ix3 e r k)) (fun k j => w (ix2 k j)) (headCol h c) := by
  pointwise [heads, lin, headCol]

theorem scores_at (q k : FVec Ideal S8x2x1500x64 .f32) (e : Fin 8) (h : Fin 2) (r j : Fin 1500) :
    scores q k (ix4 e h r j) = (∑ x, q (ix4 e h r x) * k (ix4 e h j x)) * Ideal.ofBits .f32 1040187392#32 := by
  pointwise [scores]

/-- A greatest entry over one axis, for arrays of any shape, the row's indices given by `ι`. -/
theorem reduceMax_at {s t u : Shape} {axes : List (Fin s.rank)} (x : FVec Ideal s .f32) (ix : FVec Ideal u .f32)
    (h : s.ReducesTo axes t) (hu : 0 < u.numel) (j : t.Idx) {n : ℕ} (ι : Fin n → s.Idx) (hinj : Function.Injective ι)
    (hι : ∀ i, h.drop i = j ↔ ∃ k, i = ι k) :
    Host.reduce FloatOps.maximumf x ix h hu j = Finset.univ.fold max (ix (Shape.Idx.first hu)) fun k => x (ι k) := by
  classical
  have e : Host.reduce FloatOps.maximumf x ix h hu j = Host.reduce (max : EReal → EReal → EReal) x ix h hu j := rfl
  rw [e, Host.reduce_eq_fold]
  have : (Finset.univ.filter fun i => h.drop i = j) = Finset.univ.image ι := by
    ext i; simp [hι, eq_comm]
  rw [this, Finset.fold_image hinj.injOn]
  rfl

/-- The indices of a row of scores. -/
theorem drop_scores (e : Fin 8) (h : Fin 2) (r : Fin 1500) (i : S8x2x1500x1500.Idx) :
    reducesTo_S8x2x1500x1500_S8x2x1500_d3.drop i = ix3 e h r ↔ ∃ k, i = ix4 e h r k := by
  have hd : reducesTo_S8x2x1500x1500_S8x2x1500_d3.drop i = ix3 (i 0) (i 1) (i 2) := by
    funext b
    fin_cases b <;> rfl
  rw [hd]
  constructor
  · intro hh
    refine ⟨i 3, ?_⟩
    have h0 : i 0 = e := congrFun hh 0
    have h1 : i 1 = h := congrFun hh 1
    have h2 : i 2 = r := congrFun hh 2
    rw [← h0, ← h1, ← h2]
    exact ValueIdx.eq_ix4 i
  · rintro ⟨k, rfl⟩
    rfl

/-- The exponentials, over any array in the place of the greatest scores. -/
theorem exp_less_at (s : FVec Ideal S8x2x1500x1500 .f32) (R : FVec Ideal S8x2x1500 .f32) (e : Fin 8) (h : Fin 2) (r j : Fin 1500) :
    Host.exp (subf s
      (broadcastInDim S8x2x1500x1500 ![0, 1, 2, 3] bcast_S8x2x1500x1_S8x2x1500x1500_0_1_2_3
        (broadcastInDim S8x2x1500x1 ![0, 1, 2] bcast_S8x2x1500_S8x2x1500x1_0_1_2
          (maximumf (broadcastInDim S8x2x1500 ![] bcast_S_S8x2x1500 (constant S_ .f32 0xFF800000#32)) R)))) (ix4 e h r j)
      = Ideal.exp (s (ix4 e h r j) - max ⊥ (R (ix3 e h r))) := by
  pointwise
  rw [ofBits_bot]

theorem expScores_at (s : FVec Ideal S8x2x1500x1500 .f32) (e : Fin 8) (h : Fin 2) (r j : Fin 1500) :
    expScores s (ix4 e h r j)
      = Ideal.exp (s (ix4 e h r j) - max ⊥ (Finset.univ.fold max ⊥ fun i => s (ix4 e h r i))) := by
  rw [expScores, exp_less_at, reduceMax_at s _ _ _ _ (fun k => ix4 e h r k) (fun a b hab => congrFun hab 3) (drop_scores e h r)]
  have : (constant S_ .f32 0xFF800000#32 : FVec Ideal S_ .f32) (Shape.Idx.first h_S_) = ⊥ := ofBits_bot
  rw [this]

/-- The quotients by the row's sum, over any array of exponentials. -/
theorem div_sum_at (E : FVec Ideal S8x2x1500x1500 .f32) (e : Fin 8) (h : Fin 2) (r j : Fin 1500) :
    Host.divf E
      (broadcastInDim S8x2x1500x1500 ![0, 1, 2, 3] bcast_S8x2x1500x1_S8x2x1500x1500_0_1_2_3
        (broadcastInDim S8x2x1500x1 ![0, 1, 2] bcast_S8x2x1500_S8x2x1500x1_0_1_2
          (Host.reduceAdd E (constant S_ .f32 0x00000000#32) reducesTo_S8x2x1500x1500_S8x2x1500_d3 h_S_))) (ix4 e h r j)
      = Ideal.div (E (ix4 e h r j)) (∑ i, E (ix4 e h r i)) := by
  pointwise

theorem softmax_at (q k : FVec Ideal S8x2x1500x64 .f32) (e : Fin 8) (h : Fin 2) (r j : Fin 1500) :
    softmax q k (ix4 e h r j) = soft (fun i => scores q k (ix4 e h r i)) j := by
  rw [softmax, div_sum_at]
  simp only [expScores_at]
  rfl

theorem attend_at (p : FVec Ideal S8x2x1500x1500 .f32) (v : FVec Ideal S8x2x1500x64 .f32) (w : FVec Ideal S128x128 .f32)
    (x : FVec Ideal S8x1500x128 .f32) (e : Fin 8) (r : Fin 1500) (c : Fin 128) :
    attend p v w x (ix3 e r c) = x (ix3 e r c)
      + ∑ d : Fin 128, (∑ j, p (ix4 e ⟨d.val / 64, by omega⟩ r j) * v (ix4 e ⟨d.val / 64, by omega⟩ j ⟨d.val % 64, by omega⟩)) * w (ix2 d c) := by
  pointwise [attend]

end Cert.ReferenceIdeal.Stage
-- ==== Proof.Agree.lean ====
/-
One batch entry: where the kernel's blocks hold the reference's arguments, what the body computes is the reference's stage at that entry.
-/
module

public import proofs.«01_k».proof.Proof.KerAttend
public import proofs.«01_k».proof.Proof.RefRead
public import proofs.«01_k».proof.Proof.RefSearch
public import proofs.«01_k».proof.Proof.RefAttend
public import Idealize.ShloMosaic.Lib.Pipeline.ValueKit

@[expose] public section

set_option maxRecDepth 16384

noncomputable section

namespace Cert.Agree

open Cert.Spec Cert.KernelIdeal.Gen Idealize.ShloMosaic
open Cert.ReferenceIdeal.Stage (Args)

/-- What enters the gelus and the softmax is real: these arguments are. -/
structure Finite (A : Args Ideal) : Prop where
  mlpG : ∀ k, IsReal (A.mlpG (ix1 k))
  mlpB : ∀ k, IsReal (A.mlpB (ix1 k))
  mlpW1 : ∀ k j, IsReal (A.mlpW1 (ix2 k j))
  mlpB1 : ∀ k, IsReal (A.mlpB1 (ix1 k))
  ln1G : ∀ k, IsReal (A.ln1G (ix1 k))
  ln1B : ∀ k, IsReal (A.ln1B (ix1 k))
  wq : ∀ k j, IsReal (A.wq (ix2 k j))
  wk : ∀ k j, IsReal (A.wk (ix2 k j))
  ln2G : ∀ k, IsReal (A.ln2G (ix1 k))
  ln2B : ∀ k, IsReal (A.ln2B (ix1 k))
  ffnW1 : ∀ k j, IsReal (A.ffnW1 (ix2 k j))
  ffnB1 : ∀ k, IsReal (A.ffnB1 (ix1 k))

/-- The codebook row nearest to a position's point. -/
def near (A : Args Ideal) (e : Fin 8) (r : Fin 1500) : Fin 513 :=
  first (dist (fun k => A.z (ix3 e r k)) fun j k => A.cb (ix2 j k))

variable (x0 : Vec Ideal Cert.KernelIdeal.S1x1500x128 .f32)
  (x1 : Vec Ideal Cert.KernelIdeal.S1x1500x1 .f32)
  (x2 : Vec Ideal Cert.KernelIdeal.S1x128 .f32)
  (x3 : Vec Ideal Cert.KernelIdeal.S1x128 .f32)
  (x4 : Vec Ideal Cert.KernelIdeal.S128x512 .f32)
  (x5 : Vec Ideal Cert.KernelIdeal.S1x512 .f32)
  (x6 : Vec Ideal Cert.KernelIdeal.S512x128 .f32)
  (x7 : Vec Ideal Cert.KernelIdeal.S1x128 .f32)
  (x8 : Vec Ideal Cert.KernelIdeal.S128x2 .f32)
  (x9 : Vec Ideal Cert.KernelIdeal.S1x2 .f32)
  (x10 : Vec Ideal Cert.KernelIdeal.S2x128 .f32)
  (x11 : Vec Ideal Cert.KernelIdeal.S1x128 .f32)
  (x12 : Vec Ideal Cert.KernelIdeal.S513x2 .f32)
  (x13 : Vec Ideal Cert.KernelIdeal.S1500x128 .f32)
  (x14 : Vec Ideal Cert.KernelIdeal.S1x128 .f32)
  (x15 : Vec Ideal Cert.KernelIdeal.S1x128 .f32)
  (x16 : Vec Ideal Cert.KernelIdeal.S128x128 .f32)
  (x17 : Vec Ideal Cert.KernelIdeal.S128x128 .f32)
  (x18 : Vec Ideal Cert.KernelIdeal.S128x128 .f32)
  (x19 : Vec Ideal Cert.KernelIdeal.S128x128 .f32)
  (x20 : Vec Ideal Cert.KernelIdeal.S1x128 .f32)
  (x21 : Vec Ideal Cert.KernelIdeal.S1x128 .f32)
  (x22 : Vec Ideal Cert.KernelIdeal.S128x512 .f32)
  (x23 : Vec Ideal Cert.KernelIdeal.S1x512 .f32)
  (x24 : Vec Ideal Cert.KernelIdeal.S512x128 .f32)
  (x25 : Vec Ideal Cert.KernelIdeal.S1x128 .f32)
  (x26 : Vec Ideal Cert.KernelIdeal.S1x128 .f32)
  (x27 : Vec Ideal Cert.KernelIdeal.S1x128 .f32)

/-- The blocks hold batch entry `e` of the arguments. -/
structure Same (A : Args Ideal) (e : Fin 8) : Prop where
  embs : ∀ r c, (x0 (ix3 0 r c) : EReal) = A.embs (ix3 e r c)
  mask : ∀ r, (0 : EReal) < x1 (ix3 0 r 0) ↔ A.mask (ix2 e r) = 1#1
  mlpG : ∀ k, (x2 (ix2 0 k) : EReal) = A.mlpG (ix1 k)
  mlpB : ∀ k, (x3 (ix2 0 k) : EReal) = A.mlpB (ix1 k)
  mlpW1 : ∀ k j, (x4 (ix2 k j) : EReal) = A.mlpW1 (ix2 k j)
  mlpB1 : ∀ k, (x5 (ix2 0 k) : EReal) = A.mlpB1 (ix1 k)
  mlpW2 : ∀ k j, (x6 (ix2 k j) : EReal) = A.mlpW2 (ix2 k j)
  mlpB2 : ∀ k, (x7 (ix2 0 k) : EReal) = A.mlpB2 (ix1 k)
  inW : ∀ k j, (x8 (ix2 k j) : EReal) = A.inW (ix2 k j)
  inB : ∀ k, (x9 (ix2 0 k) : EReal) = A.inB (ix1 k)
  outW : ∀ k j, (x10 (ix2 k j) : EReal) = A.outW (ix2 k j)
  outB : ∀ k, (x11 (ix2 0 k) : EReal) = A.outB (ix1 k)
  cb : ∀ k j, (x12 (ix2 k j) : EReal) = A.cb (ix2 k j)
  pos : ∀ k j, (x13 (ix2 k j) : EReal) = A.pos (ix2 k j)
  ln1G : ∀ k, (x14 (ix2 0 k) : EReal) = A.ln1G (ix1 k)
  ln1B : ∀ k, (x15 (ix2 0 k) : EReal) = A.ln1B (ix1 k)
  wq : ∀ k j, (x16 (ix2 k j) : EReal) = A.wq (ix2 k j)
  wk : ∀ k j, (x17 (ix2 k j) : EReal) = A.wk (ix2 k j)
  wv : ∀ k j, (x18 (ix2 k j) : EReal) = A.wv (ix2 k j)
  wo : ∀ k j, (x19 (ix2 k j) : EReal) = A.wo (ix2 k j)
  ln2G : ∀ k, (x20 (ix2 0 k) : EReal) = A.ln2G (ix1 k)
  ln2B : ∀ k, (x21 (ix2 0 k) : EReal) = A.ln2B (ix1 k)
  ffnW1 : ∀ k j, (x22 (ix2 k j) : EReal) = A.ffnW1 (ix2 k j)
  ffnB1 : ∀ k, (x23 (ix2 0 k) : EReal) = A.ffnB1 (ix1 k)
  ffnW2 : ∀ k j, (x24 (ix2 k j) : EReal) = A.ffnW2 (ix2 k j)
  ffnB2 : ∀ k, (x25 (ix2 0 k) : EReal) = A.ffnB2 (ix1 k)
  lastG : ∀ k, (x26 (ix2 0 k) : EReal) = A.lastG (ix1 k)
  lastB : ∀ k, (x27 (ix2 0 k) : EReal) = A.lastB (ix1 k)

variable {x0 x1 x2 x3 x4 x5 x6 x7 x8 x9 x10 x11 x12 x13 x14 x15 x16 x17 x18 x19 x20 x21 x22 x23 x24 x25 x26 x27} {A : Args Ideal} {e : Fin 8}

theorem number_ref (A : Args Ideal) (e : Fin 8) (r : Fin 1500) : A.number (ix2 e r) = BitVec.ofNat 32 (near A e r).val := by
  rw [Args.number, Cert.ReferenceIdeal.Stage.nearest_at]
  simp only [Cert.ReferenceIdeal.Stage.distances_at]
  rfl

theorem loss_ref (A : Args Ideal) : A.loss ix0 = Ideal.div (∑ e : Fin 8, ∑ r : Fin 1500, ∑ k : Fin 2,
    (A.cb (ix2 (near A e r) k) - A.z (ix3 e r k)) * (A.cb (ix2 (near A e r) k) - A.z (ix3 e r k))) (Ideal.ofBits .f32 1186693120#32) := by
  rw [Args.loss, Cert.ReferenceIdeal.Stage.commit_at]
  simp only [Cert.ReferenceIdeal.Stage.rows_at A.cb (number_ref A _ _)]

theorem x_ref (A : Args Ideal) (e : Fin 8) (r : Fin 1500) (c : Fin 128) : A.x (ix3 e r c)
    = (if A.mask (ix2 e r) = 1#1 then
          (∑ k, (A.z (ix3 e r k) + (A.cb (ix2 (near A e r) k) - A.z (ix3 e r k))) * A.outW (ix2 k c)) + A.outB (ix1 c)
        else (∑ k, A.cb (ix2 512 k) * A.outW (ix2 k c)) + A.outB (ix1 c)) + A.pos (ix2 r c) := by
  rw [Args.x, Cert.ReferenceIdeal.Stage.embed_at]
  simp only [Cert.ReferenceIdeal.Stage.rows_at A.cb (number_ref A _ _)]

/-- A normed row of the attention's input. -/
def yRow (A : Args Ideal) (e : Fin 8) (r : Fin 1500) : Fin 128 → EReal :=
  norm (fun k => A.x (ix3 e r k)) (fun k => A.ln1G (ix1 k)) fun k => A.ln1B (ix1 k)

theorem isReal_yRow (F : Finite A) (r : Fin 1500) (k : Fin 128) : IsReal (yRow A e r k) := isReal_norm _ F.ln1G F.ln1B k

theorem att_ref (A : Args Ideal) (e : Fin 8) (r : Fin 1500) (c : Fin 128) : A.att (ix3 e r c)
    = A.x (ix3 e r c) + ∑ d : Fin 128, (∑ j, soft (fun i =>
        (∑ x : Fin 64, lin (yRow A e r) (fun k j => A.wq (ix2 k j)) ⟨d.val / 64 * 64 + x.val, by omega⟩
          * lin (yRow A e i) (fun k j => A.wk (ix2 k j)) ⟨d.val / 64 * 64 + x.val, by omega⟩) * Ideal.ofBits .f32 1040187392#32) j
        * lin (yRow A e j) (fun k j => A.wv (ix2 k j)) d) * A.wo (ix2 d c) := by
  have hd (d : Fin 128) (h : d.val / 64 < 2) (h' : d.val % 64 < 64) :
      Cert.ReferenceIdeal.Stage.headCol ⟨d.val / 64, h⟩ ⟨d.val % 64, h'⟩ = d :=
    Fin.ext (by show d.val / 64 * 64 + d.val % 64 = d.val; omega)
  rw [Args.att, Cert.ReferenceIdeal.Stage.attend_at]
  simp only [Cert.ReferenceIdeal.Stage.softmax_at, Cert.ReferenceIdeal.Stage.scores_at, Cert.ReferenceIdeal.Stage.heads_at, hd,
    Args.y, Cert.ReferenceIdeal.Stage.layerNorm_at]
  rfl

/-- The second two-layer block's row. -/
def ffnRef (A : Args Ideal) (e : Fin 8) (r : Fin 1500) : Fin 128 → EReal :=
  mlp (fun k => A.att (ix3 e r k)) (fun k => A.ln2G (ix1 k)) (fun k => A.ln2B (ix1 k)) (fun k j => A.ffnW1 (ix2 k j))
    (fun k => A.ffnB1 (ix1 k)) (fun k j => A.ffnW2 (ix2 k j)) fun k => A.ffnB2 (ix1 k)

theorem out_ref (A : Args Ideal) (e : Fin 8) (r : Fin 1500) (c : Fin 128) :
    A.out (ix3 e r c) = norm (ffnRef A e r) (fun k => A.lastG (ix1 k)) (fun k => A.lastB (ix1 k)) c := by
  rw [Args.out, Cert.ReferenceIdeal.Stage.layerNorm_at]
  simp only [Args.ffn, Cert.ReferenceIdeal.Stage.mlp_at]
  rfl

theorem zeros3 : (![0, 0, 0] : Fin 3 → Nat) = fun _ => 0 := by decide

theorem zeros2 : (![0, 0] : Fin 2 → Nat) = fun _ => 0 := by decide

/-- A load of a whole block is the block. -/
theorem ld_row (x : Vec Ideal Cert.KernelIdeal.S1x128 .f32) : View.ld x r0_1 = x := View.ld_unit_zero zeros2 _ x

theorem ld_row512 (x : Vec Ideal Cert.KernelIdeal.S1x512 .f32) : View.ld x r0_3 = x := View.ld_unit_zero zeros2 _ x

theorem ld_square (x : Vec Ideal Cert.KernelIdeal.S128x128 .f32) : View.ld x r0_12 = x := View.ld_unit_zero zeros2 _ x

theorem ld_wide (x : Vec Ideal Cert.KernelIdeal.S128x512 .f32) : View.ld x r0_2 = x := View.ld_unit_zero zeros2 _ x

theorem ld_tall (x : Vec Ideal Cert.KernelIdeal.S512x128 .f32) : View.ld x r0_4 = x := View.ld_unit_zero zeros2 _ x

theorem z_same (S : Same x0 x1 x2 x3 x4 x5 x6 x7 x8 x9 x10 x11 x12 x13 x14 x15 x16 x17 x18 x19 x20 x21 x22 x23 x24 x25 x26 x27 A e) (F : Finite A) (r : Fin 1500) (c : Fin 2) :
    k0_pay29 x0 x2 x3 x4 x5 x6 x7 x8 x9 (ix2 r c) = A.z (ix3 e r c) := by
  rw [point_at, Args.z, Cert.ReferenceIdeal.Stage.project_at]
  simp only [Cert.ReferenceIdeal.Stage.mlp_at, S.embs, S.mlpG, S.mlpB, S.mlpW1, S.mlpB1, S.mlpW2, S.mlpB2, S.inW, S.inB]
  rw [show mlpK _ _ _ _ _ _ _ _ = _ from funext (mlpK_eq _ _ _ F.mlpG F.mlpB F.mlpW1 F.mlpB1)]

theorem number_same (S : Same x0 x1 x2 x3 x4 x5 x6 x7 x8 x9 x10 x11 x12 x13 x14 x15 x16 x17 x18 x19 x20 x21 x22 x23 x24 x25 x26 x27 A e) (F : Finite A) (r : Fin 1500) :
    k0_pay30 x0 x2 x3 x4 x5 x6 x7 x8 x9 x12 (ix2 r 0) = BitVec.ofNat 32 (near A e r).val := by
  rw [number_at]
  simp only [z_same S F, S.cb]
  rfl

theorem commit_same (S : Same x0 x1 x2 x3 x4 x5 x6 x7 x8 x9 x10 x11 x12 x13 x14 x15 x16 x17 x18 x19 x20 x21 x22 x23 x24 x25 x26 x27 A e) (F : Finite A) (c : Fin 128) :
    k0_pay9 (View.ld x12 r0_5) (k0_pay29 x0 x2 x3 x4 x5 x6 x7 x8 x9) k0_pay28 (k0_pay30 x0 x2 x3 x4 x5 x6 x7 x8 x9 x12) (ix3 0 0 c)
      = ∑ r : Fin 1500, ∑ k : Fin 2,
        (A.cb (ix2 (near A e r) k) - A.z (ix3 e r k)) * (A.cb (ix2 (near A e r) k) - A.z (ix3 e r k)) := by
  rw [commit_at _ _ _ _ _ _ _ _ _ (number_same S F)]
  simp only [z_same S F, S.cb]

theorem x_same (S : Same x0 x1 x2 x3 x4 x5 x6 x7 x8 x9 x10 x11 x12 x13 x14 x15 x16 x17 x18 x19 x20 x21 x22 x23 x24 x25 x26 x27 A e) (F : Finite A) (r : Fin 1500) (c : Fin 128) :
    k0_pay31 x0 x1 x2 x3 x4 x5 x6 x7 x8 x9 x10 x11 x12 x13 (ix2 r c) = A.x (ix3 e r c) := by
  rw [embed_at _ _ _ _ _ _ _ _ _ _ _ _ _ (number_same S F r), x_ref]
  simp only [z_same S F, S.cb, S.mask, S.outW, S.outB, S.pos]
  by_cases h : A.mask (ix2 e r) = 1#1
  · simp only [if_pos h]
  · simp only [if_neg h]

theorem att_same (S : Same x0 x1 x2 x3 x4 x5 x6 x7 x8 x9 x10 x11 x12 x13 x14 x15 x16 x17 x18 x19 x20 x21 x22 x23 x24 x25 x26 x27 A e) (F : Finite A) (r : Fin 1500) (c : Fin 128) :
    k0_pay37 x0 x1 x2 x3 x4 x5 x6 x7 x8 x9 x10 x11 x12 x13 x14 x15 x16 x17 x18 x19 (ix2 r c) = A.att (ix3 e r c) := by
  have hn (r : Fin 1500) : nrm (k0_pay31 x0 x1 x2 x3 x4 x5 x6 x7 x8 x9 x10 x11 x12 x13) (View.ld x14 r0_1) (View.ld x15 r0_1) r = yRow A e r := by
    funext k
    rw [yRow, ← normK_eq]
    unfold nrm
    rw [ld_row x14, ld_row x15]
    simp only [x_same S F, S.ln1G, S.ln1B]
  rw [att_ref]
  refine (attend_at _ _ _ _ _ _ _ _ _).trans ?_
  rw [ld_square x18, ld_square x19]
  simp only [value_at, hn, x_same S F, S.wv, S.wo]
  refine congrArg _ (Finset.sum_congr rfl fun d _ => congrArg (· * _) ?_)
  choose σ hs ht using fun i : Fin 1500 => scores_eq
    (a := fun x : Fin 64 => lin (yRow A e r) (fun k j => A.wq (ix2 k j)) ⟨d.val / 64 * 64 + x.val, by omega⟩)
    (b := fun x : Fin 64 => lin (yRow A e i) (fun k j => A.wk (ix2 k j)) ⟨d.val / 64 * 64 + x.val, by omega⟩)
    (fun x => isReal_lin (isReal_yRow F r) F.wq _) (fun x => isReal_lin (isReal_yRow F i) F.wk _)
  refine attendK_eq _ hs fun i => ?_
  rw [← ht i]
  simp only [baseTwo, query_at, key_at, hn]
  rw [ld_square x16, ld_square x17]
  simp only [S.wq, S.wk]

/-- The second two-layer block's row. -/
theorem ffn_same (S : Same x0 x1 x2 x3 x4 x5 x6 x7 x8 x9 x10 x11 x12 x13 x14 x15 x16 x17 x18 x19 x20 x21 x22 x23 x24 x25 x26 x27 A e) (F : Finite A) (r : Fin 1500) :
    ffnRow (View.ld x20 r0_1) (View.ld x21 r0_1) (k0_pay37 x0 x1 x2 x3 x4 x5 x6 x7 x8 x9 x10 x11 x12 x13 x14 x15 x16 x17 x18 x19) (View.ld x22 r0_2) (View.ld x23 r0_3) (View.ld x24 r0_4)
      (View.ld x25 r0_1) r = ffnRef A e r := by
  funext c
  rw [ffnRef, ← mlpK_eq _ _ _ F.ln2G F.ln2B F.ffnW1 F.ffnB1, ffnRow]
  rw [ld_row x20, ld_row x21, ld_wide x22, ld_row512 x23, ld_tall x24, ld_row x25]
  simp only [att_same S F, S.ln2G, S.ln2B, S.ffnW1, S.ffnB1, S.ffnW2, S.ffnB2]

theorem out_same (S : Same x0 x1 x2 x3 x4 x5 x6 x7 x8 x9 x10 x11 x12 x13 x14 x15 x16 x17 x18 x19 x20 x21 x22 x23 x24 x25 x26 x27 A e) (F : Finite A) (r : Fin 1500) (c : Fin 128) :
    out0_28 x0 x1 x2 x3 x4 x5 x6 x7 x8 x9 x10 x11 x12 x13 x14 x15 x16 x17 x18 x19 x20 x21 x22 x23 x24 x25 x26 x27 (ix3 0 r c) = A.out (ix3 e r c) := by
  have hA (r : Fin 1500) (c : Fin 128) := ffn_at (View.ld x20 r0_1) (View.ld x21 r0_1)
    (k0_pay37 x0 x1 x2 x3 x4 x5 x6 x7 x8 x9 x10 x11 x12 x13 x14 x15 x16 x17 x18 x19) (View.ld x22 r0_2) (View.ld x23 r0_3) (View.ld x24 r0_4) (View.ld x25 r0_1)
    (v199 := k0_pay39 x0 x1 x2 x3 x4 x5 x6 x7 x8 x9 x10 x11 x12 x13 x14 x15 x16 x17 x18 x19) (r := r) (fun k => quotient_at _ _ _ _ _ _ _ r k) c
  have hl := last_at (View.ld x26 r0_1) (View.ld x27 r0_1) _ _ (hA r) (squares_at _ _ _ _ _ _ _ _ r) c
  rw [ffn_same S F, ld_row x26, ld_row x27] at hl
  simp only [S.lastG, S.lastB, normK_eq] at hl
  rw [out_ref, out0_28, View.canon_unit_zero zeros3]
  rw [ld_row x26, ld_row x27]
  exact hl

theorem numbers_same (S : Same x0 x1 x2 x3 x4 x5 x6 x7 x8 x9 x10 x11 x12 x13 x14 x15 x16 x17 x18 x19 x20 x21 x22 x23 x24 x25 x26 x27 A e) (F : Finite A) (r : Fin 1500) :
    out0_29 x0 x2 x3 x4 x5 x6 x7 x8 x9 x12 (ix3 0 r 0) = A.number (ix2 e r) := by
  rw [number_ref, ← number_same S F r, out0_29, View.canon_unit_zero zeros3]
  pointwise [k0_pay7]

theorem commits_same (S : Same x0 x1 x2 x3 x4 x5 x6 x7 x8 x9 x10 x11 x12 x13 x14 x15 x16 x17 x18 x19 x20 x21 x22 x23 x24 x25 x26 x27 A e) (F : Finite A) (c : Fin 128) :
    out0_30 x0 x2 x3 x4 x5 x6 x7 x8 x9 x12 (ix3 0 0 c) = ∑ r : Fin 1500, ∑ k : Fin 2,
        (A.cb (ix2 (near A e r) k) - A.z (ix3 e r k)) * (A.cb (ix2 (near A e r) k) - A.z (ix3 e r k)) := by
  rw [← commit_same S F c, out0_30, View.canon_unit_zero zeros3]

end Cert.Agree
-- ==== Proof.KernelValue.lean ====
/-
What the kernel's run leaves in its three result arrays: the reference's results of the same arguments.
-/
module

public import proofs.«01_k».proof.Proof.Agree
public import proofs.«01_k».proof.Proof.KernelIdealRun
public import Idealize.ShloMosaic.Lib.Claim

@[expose] public section

set_option maxRecDepth 16384

noncomputable section

namespace Cert.KernelIdeal.Gen

open Cert.Spec Cert.Agree Idealize.ShloMosaic Idealize.ShloMosaic.TcCoe Idealize.SL.Sem
open Idealize.ShloMosaic.Pipeline (Dat)
open Cert.ReferenceIdeal.Stage (Args)

variable (m : (ℓ : Loc nD τ sig) → Buf (Elt Ideal) ℓ) (c : Dev nD)

/-- The kernel's arguments as the reference takes them. -/
def argsOf : Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27)⟩

/-- The batch entry a grid point works on. -/
def ent (t : Fin cfg0.N) : Fin 8 := ⟨t.val, t.isLt⟩

/-! ## What the lines before the kernel hand it: the mask as numbers, each gate as a row. -/

theorem entry_mask : (V m c main_v1 : Vec Ideal S8x1500x1 .f32)
    = shapeCast S8x1500x1 (uitofp (F := Ideal) .f32 (m ((c : Thread nD τ).loc main_arg1) : Vec Ideal S8x1500 .i1)) shapeCasts_S8x1500_S8x1500x1 := by
  show StableHlo.after hostOps0 _ (Proc.devRef .tc main_v1) = _
  after_results
  rfl

theorem entry_gates :
    (V m c main_v2 : Vec Ideal S1x128 .f32) = shapeCast S1x128 (m ((c : Thread nD τ).loc main_arg2) : Vec Ideal S128 .f32) shapeCasts_S128_S1x128
    ∧ (V m c main_v3 : Vec Ideal S1x128 .f32) = shapeCast S1x128 (m ((c : Thread nD τ).loc main_arg3) : Vec Ideal S128 .f32) shapeCasts_S128_S1x128
    ∧ (V m c main_v4 : Vec Ideal S1x512 .f32) = shapeCast S1x512 (m ((c : Thread nD τ).loc main_arg5) : Vec Ideal S512 .f32) shapeCasts_S512_S1x512
    ∧ (V m c main_v5 : Vec Ideal S1x128 .f32) = shapeCast S1x128 (m ((c : Thread nD τ).loc main_arg7) : Vec Ideal S128 .f32) shapeCasts_S128_S1x128
    ∧ (V m c main_v6 : Vec Ideal S1x2 .f32) = shapeCast S1x2 (m ((c : Thread nD τ).loc main_arg9) : Vec Ideal S2 .f32) shapeCasts_S2_S1x2
    ∧ (V m c main_v7 : Vec Ideal S1x128 .f32) = shapeCast S1x128 (m ((c : Thread nD τ).loc main_arg11) : Vec Ideal S128 .f32) shapeCasts_S128_S1x128
    ∧ (V m c main_v8 : Vec Ideal S1x128 .f32) = shapeCast S1x128 (m ((c : Thread nD τ).loc main_arg14) : Vec Ideal S128 .f32) shapeCasts_S128_S1x128
    ∧ (V m c main_v9 : Vec Ideal S1x128 .f32) = shapeCast S1x128 (m ((c : Thread nD τ).loc main_arg15) : Vec Ideal S128 .f32) shapeCasts_S128_S1x128
    ∧ (V m c main_v10 : Vec Ideal S1x128 .f32) = shapeCast S1x128 (m ((c : Thread nD τ).loc main_arg20) : Vec Ideal S128 .f32) shapeCasts_S128_S1x128
    ∧ (V m c main_v11 : Vec Ideal S1x128 .f32) = shapeCast S1x128 (m ((c : Thread nD τ).loc main_arg21) : Vec Ideal S128 .f32) shapeCasts_S128_S1x128
    ∧ (V m c main_v12 : Vec Ideal S1x512 .f32) = shapeCast S1x512 (m ((c : Thread nD τ).loc main_arg23) : Vec Ideal S512 .f32) shapeCasts_S512_S1x512
    ∧ (V m c main_v13 : Vec Ideal S1x128 .f32) = shapeCast S1x128 (m ((c : Thread nD τ).loc main_arg25) : Vec Ideal S128 .f32) shapeCasts_S128_S1x128
    ∧ (V m c main_v14 : Vec Ideal S1x128 .f32) = shapeCast S1x128 (m ((c : Thread nD τ).loc main_arg26) : Vec Ideal S128 .f32) shapeCasts_S128_S1x128
    ∧ (V m c main_v15 : Vec Ideal S1x128 .f32) = shapeCast S1x128 (m ((c : Thread nD τ).loc main_arg27) : Vec Ideal S128 .f32) shapeCasts_S128_S1x128 := by
  refine ⟨?_, ?_, ?_, ?_, ?_, ?_, ?_, ?_, ?_, ?_, ?_, ?_, ?_, ?_⟩
  all_goals
    show StableHlo.after hostOps0 _ (Proc.devRef .tc _) = _
    after_results
    rfl

theorem row_at (X : Vec Ideal S128 .f32) {i : S1x128.Idx} {k : Fin 128} (hi : i = ix2 0 k) : shapeCast S1x128 X shapeCasts_S128_S1x128 i = X (ix1 k) := by
  subst hi
  pointwise

theorem row512_at (X : Vec Ideal S512 .f32) {i : S1x512.Idx} {k : Fin 512} (hi : i = ix2 0 k) : shapeCast S1x512 X shapeCasts_S512_S1x512 i = X (ix1 k) := by
  subst hi
  pointwise

theorem row2_at (X : Vec Ideal S2 .f32) {i : S1x2.Idx} {k : Fin 2} (hi : i = ix2 0 k) : shapeCast S1x2 X shapeCasts_S2_S1x2 i = X (ix1 k) := by
  subst hi
  pointwise

theorem bit_pos (b : BitVec 1) : (0 : EReal) < FloatOps.uitofp (F := Ideal) .f32 b ↔ b = 1#1 := by
  show (0 : EReal) < ((b.toNat : ℝ) : EReal) ↔ b = 1#1
  rcases BitVec.eq_zero_or_eq_one b with rfl | rfl <;> simp

/-! ## Each block is its array's, at the point's batch entry. -/

theorem idx : ∀ t : Fin cfg0.N, win0_0.index t = ![t.val, 0, 0] ∧ win0_1.index t = ![t.val, 0, 0] ∧ win0_28.index t = ![t.val, 0, 0] ∧ win0_29.index t = ![t.val, 0, 0] ∧ win0_30.index t = ![t.val, 0, 0] :=
  (by decide +kernel : ∀ t : Fin grid0.N, _)

theorem idxA : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem idxB : ∀ t : Fin cfg0.N, win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] ∧ win0_24.index t = ![0, 0] ∧ win0_25.index t = ![0, 0] ∧ win0_26.index t = ![0, 0] ∧ win0_27.index t = ![0, 0] :=
  (by decide +kernel : ∀ t : Fin grid0.N, _)

theorem mask_at (t : Fin cfg0.N) (r : Fin 1500) : (0 : EReal) < (iblk m c 1 t : Vec Ideal S1x1500x1 .f32) (ix3 0 r 0)
    ↔ (m ((c : Thread nD τ).loc main_arg1) : Vec Ideal S8x1500 .i1) (ix2 (ent t) r) = 1#1 := by
  blk_simp [iblk, idx t]
  rw [show (win0_1.blk t).view.emb (ix3 0 r 0) = (ix3 (ent t) r 0 : S8x1500x1.Idx) from by blk_ext [idx t, ent], entry_mask]
  pointwise
  exact bit_pos _

set_option maxHeartbeats 2000000 in
theorem same (t : Fin cfg0.N) : Same (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (argsOf m c) (ent t) := by
  obtain ⟨g2, g3, g5, g7, g9, g11, g14, g15, g20, g21, g23, g25, g26, g27⟩ := entry_gates m c
  exact {
    embs := fun r k => by
      blk_simp [iblk, idx t]
      rw [V_main_arg0]
      blk_ext [idx t, ent, argsOf]
    mask := mask_at m c t
    mlpG := fun k => by blk_simp [iblk, idxA t]; rw [g2]; exact row_at _ (by blk_ext [idxA t])
    mlpB := fun k => by blk_simp [iblk, idxA t]; rw [g3]; exact row_at _ (by blk_ext [idxA t])
    mlpW1 := fun k j => by blk_simp [iblk, idxA t]; rw [V_main_arg4]; blk_ext [idxA t, argsOf]
    mlpB1 := fun k => by blk_simp [iblk, idxA t]; rw [g5]; exact row512_at _ (by blk_ext [idxA t])
    mlpW2 := fun k j => by blk_simp [iblk, idxA t]; rw [V_main_arg6]; blk_ext [idxA t, argsOf]
    mlpB2 := fun k => by blk_simp [iblk, idxA t]; rw [g7]; exact row_at _ (by blk_ext [idxA t])
    inW := fun k j => by blk_simp [iblk, idxA t]; rw [V_main_arg8]; blk_ext [idxA t, argsOf]
    inB := fun k => by blk_simp [iblk, idxA t]; rw [g9]; exact row2_at _ (by blk_ext [idxA t])
    outW := fun k j => by blk_simp [iblk, idxA t]; rw [V_main_arg10]; blk_ext [idxA t, argsOf]
    outB := fun k => by blk_simp [iblk, idxA t]; rw [g11]; exact row_at _ (by blk_ext [idxA t])
    cb := fun k j => by blk_simp [iblk, idxA t]; rw [V_main_arg12]; blk_ext [idxA t, argsOf]
    pos := fun k j => by blk_simp [iblk, idxA t]; rw [V_main_arg13]; blk_ext [idxA t, argsOf]
    ln1G := fun k => by blk_simp [iblk, idxA t]; rw [g14]; exact row_at _ (by blk_ext [idxA t])
    ln1B := fun k => by blk_simp [iblk, idxB t]; rw [g15]; exact row_at _ (by blk_ext [idxB t])
    wq := fun k j => by blk_simp [iblk, idxB t]; rw [V_main_arg16]; blk_ext [idxB t, argsOf]
    wk := fun k j => by blk_simp [iblk, idxB t]; rw [V_main_arg17]; blk_ext [idxB t, argsOf]
    wv := fun k j => by blk_simp [iblk, idxB t]; rw [V_main_arg18]; blk_ext [idxB t, argsOf]
    wo := fun k j => by blk_simp [iblk, idxB t]; rw [V_main_arg19]; blk_ext [idxB t, argsOf]
    ln2G := fun k => by blk_simp [iblk, idxB t]; rw [g20]; exact row_at _ (by blk_ext [idxB t])
    ln2B := fun k => by blk_simp [iblk, idxB t]; rw [g21]; exact row_at _ (by blk_ext [idxB t])
    ffnW1 := fun k j => by blk_simp [iblk, idxB t]; rw [V_main_arg22]; blk_ext [idxB t, argsOf]
    ffnB1 := fun k => by blk_simp [iblk, idxB t]; rw [g23]; exact row512_at _ (by blk_ext [idxB t])
    ffnW2 := fun k j => by blk_simp [iblk, idxB t]; rw [V_main_arg24]; blk_ext [idxB t, argsOf]
    ffnB2 := fun k => by blk_simp [iblk, idxB t]; rw [g25]; exact row_at _ (by blk_ext [idxB t])
    lastG := fun k => by blk_simp [iblk, idxB t]; rw [g26]; exact row_at _ (by blk_ext [idxB t])
    lastB := fun k => by blk_simp [iblk, idxB t]; rw [g27]; exact row_at _ (by blk_ext [idxB t])
  }

/-! ## The result arrays after the run. -/

variable (G28 : Vec Ideal S8x1500x128 .f32) (G29 : Vec Ideal S8x1500x1 .i32) (G30 : Vec Ideal S8x1x128 .f32)

theorem final28 (h : ∀ (t : Fin cfg0.N) (r : Fin 1500) (k : Fin 128), ((dats m 0 c).after 28 t : Vec Ideal S1x1500x128 .f32) (ix3 0 r k) = G28 (ix3 (ent t) r k)) :
    (dats m 0 c).arrAt 28 (cfgs 0).N = G28 := by
  refine (dats m 0 c).arrAt_eq_of_covers 28 _ (by decide +kernel) fun t _ y => ?_
  blk_simp [idx t]
  obtain ⟨a, r, k, rfl⟩ : ∃ (a : Fin 1) (r : Fin 1500) (k : Fin 128), y = (ix3 a r k : S1x1500x128.Idx) := ⟨y 0, y 1, y 2, eq_ix3 _⟩
  obtain rfl : a = 0 := Subsingleton.elim _ _
  refine (h t r k).trans (congrArg G28 ?_)
  blk_ext [idx t, ent]

theorem final29 (h : ∀ (t : Fin cfg0.N) (r : Fin 1500), ((dats m 0 c).after 29 t : Vec Ideal S1x1500x1 .i32) (ix3 0 r 0) = G29 (ix3 (ent t) r 0)) :
    (dats m 0 c).arrAt 29 (cfgs 0).N = G29 := by
  refine (dats m 0 c).arrAt_eq_of_covers 29 _ (by decide +kernel) fun t _ y => ?_
  blk_simp [idx t]
  obtain ⟨a, r, b, rfl⟩ : ∃ (a : Fin 1) (r : Fin 1500) (b : Fin 1), y = (ix3 a r b : S1x1500x1.Idx) := ⟨y 0, y 1, y 2, eq_ix3 _⟩
  obtain rfl : a = 0 := Subsingleton.elim _ _
  obtain rfl : b = 0 := Subsingleton.elim _ _
  refine (h t r).trans (congrArg G29 ?_)
  blk_ext [idx t, ent]

theorem final30 (h : ∀ (t : Fin cfg0.N) (k : Fin 128), ((dats m 0 c).after 30 t : Vec Ideal S1x1x128 .f32) (ix3 0 0 k) = G30 (ix3 (ent t) 0 k)) :
    (dats m 0 c).arrAt 30 (cfgs 0).N = G30 := by
  refine (dats m 0 c).arrAt_eq_of_covers 30 _ (by decide +kernel) fun t _ y => ?_
  blk_simp [idx t]
  obtain ⟨a, b, k, rfl⟩ : ∃ (a b : Fin 1) (k : Fin 128), y = (ix3 a b k : S1x1x128.Idx) := ⟨y 0, y 1, y 2, eq_ix3 _⟩
  obtain rfl : a = 0 := Subsingleton.elim _ _
  obtain rfl : b = 0 := Subsingleton.elim _ _
  refine (h t k).trans (congrArg G30 ?_)
  blk_ext [idx t, ent]

/-! ## The lines after the kernel: the numbers without their last axis, the error's mean. -/

theorem tail17 (h : (dats m 0 c).arrAt 29 (cfgs 0).N = G29) (e : Fin 8) (r : Fin 1500) :
    (Pipeline.afterTail₀ cfgs (dats m) 0 (V0 m) [hostOps1] c main_v17 : Vec Ideal S8x1500 .i32) (ix2 e r) = G29 (ix3 e r 0) := by
  have h' : Pipeline.withArrays (cfgs 0).spec c (V0 m c) (fun w => (dats m 0 c).arrAt w (cfgs 0).N) (Proc.devRef .tc main_v16_1) = G29 :=
    (Pipeline.withArrays_arr (cfgs 0).spec launch0.win.arr_inj c (V0 m c) (fun w => (dats m 0 c).arrAt w (cfgs 0).N) 29).trans h
  have e : (Pipeline.afterTail₀ cfgs (dats m) 0 (V0 m) [hostOps1] c main_v17 : Vec Ideal S8x1500 .i32) = shapeCast S8x1500 G29 shapeCasts_S8x1500x1_S8x1500 := by
    rw [← h']
    show StableHlo.after hostOps1 _ (Proc.devRef .tc main_v17) = _
    after_results
    rfl
  rw [e]
  pointwise

/-- The mean of the entries' errors, each read at its row's first place. -/
def errors : FVec Ideal S_ .f32 :=
  Host.divf (Host.reduceAdd (shapeCast S8 (extractStridedSlice S8x1x1 ![0, 0, 0] G30 slices_S8x1x128_S8x1x1_0_0_0) shapeCasts_S8x1x1_S8)
    (constant S_ .f32 0x00000000#32) reducesTo_S8_S_d0 h_S_) (constant S_ .f32 0x46BB8000#32)

theorem tail21 (h : (dats m 0 c).arrAt 30 (cfgs 0).N = G30) :
    (Pipeline.afterTail₀ cfgs (dats m) 0 (V0 m) [hostOps1] c main_v21 : Vec Ideal S_ .f32) ix0
      = Ideal.div (∑ e : Fin 8, G30 (ix3 e 0 0)) (Ideal.ofBits .f32 1186693120#32) := by
  have h' : Pipeline.withArrays (cfgs 0).spec c (V0 m c) (fun w => (dats m 0 c).arrAt w (cfgs 0).N) (Proc.devRef .tc main_v16_2) = G30 :=
    (Pipeline.withArrays_arr (cfgs 0).spec launch0.win.arr_inj c (V0 m c) (fun w => (dats m 0 c).arrAt w (cfgs 0).N) 30).trans h
  have e : (Pipeline.afterTail₀ cfgs (dats m) 0 (V0 m) [hostOps1] c main_v21 : Vec Ideal S_ .f32) = errors G30 := by
    rw [← h']
    show StableHlo.after hostOps1 _ (Proc.devRef .tc main_v21) = _
    after_results
    rfl
  rw [e]
  pointwise [errors]

/-! ## Together: the three results are the reference's. -/

variable (F : Finite (argsOf m c))

include F in
theorem result_out : (dats m 0 c).arrAt 28 (cfgs 0).N = (argsOf m c).out :=
  final28 m c (argsOf m c).out fun t r k => by
    rw [after0_28]
    exact out_same (same m c t) F r k

include F in
theorem result_number : (Pipeline.afterTail₀ cfgs (dats m) 0 (V0 m) [hostOps1] c main_v17 : Vec Ideal S8x1500 .i32) = (argsOf m c).number := by
  have h := final29 m c (fun i => (argsOf m c).number (ix2 (i 0) (i 1))) fun t r => by
    rw [after0_29]
    exact numbers_same (same m c t) F r
  funext i
  obtain ⟨e, r, rfl⟩ : ∃ (e : Fin 8) (r : Fin 1500), i = ix2 e r := ⟨i 0, i 1, eq_ix2 _⟩
  exact tail17 m c _ h e r

include F in
theorem result_loss : (Pipeline.afterTail₀ cfgs (dats m) 0 (V0 m) [hostOps1] c main_v21 : Vec Ideal S_ .f32) = (argsOf m c).loss := by
  have h := final30 m c (fun i => ∑ r : Fin 1500, ∑ k : Fin 2,
      ((argsOf m c).cb (ix2 (near (argsOf m c) (i 0) r) k) - (argsOf m c).z (ix3 (i 0) r k))
        * ((argsOf m c).cb (ix2 (near (argsOf m c) (i 0) r) k) - (argsOf m c).z (ix3 (i 0) r k))) fun t k => by
    rw [after0_30]
    exact commits_same (same m c t) F k
  funext i
  obtain rfl : i = ix0 := funext fun a => a.elim0
  exact (tail21 m c _ h).trans (loss_ref _).symm

end Cert.KernelIdeal.Gen
-- ==== Proof.Gates.lean ====
/-
The precondition read back: the arguments it names are real numbers.
-/
module

public import proofs.«01_k».proof.Defs
public import proofs.«01_k».proof.Proof.KernelValue
public import Idealize.ShloMosaic.Lib.ReduceAll

@[expose] public section

set_option maxRecDepth 16384

noncomputable section

namespace Cert.Pre_finite_gates

open Cert.Spec Idealize.ShloMosaic Idealize.ShloMosaic.TcCoe

/-- What the precondition's operations ask of their shapes. -/
theorem facts : Facts where
  bcast_S_S128 := by decide
  reducesTo_S128_S_d0 := by decide
  h_S_ := by decide
  bcast_S_S128x512 := by decide
  reducesTo_S128x512_S_d0_1 := by decide
  bcast_S_S512 := by decide
  reducesTo_S512_S_d0 := by decide
  bcast_S_S128x128 := by decide
  reducesTo_S128x128_S_d0_1 := by decide

/-- Every absolute value is below infinity: every element is real. -/
theorem real_of_all {s : Shape} {axes : List (Fin s.rank)} (X : FVec Ideal s .f32) (b : S_.BroadcastsInDim s (![] : Fin 0 → Fin s.rank)) (c : IVec S_ 1)
    (h : s.ReducesTo axes S_) (hu : 0 < S_.numel)
    (e : Host.reduce IntOp.andi (cmpf .olt (Host.absf X) (broadcastInDim s ![] b (constant S_ .f32 0x7F800000#32))) c h hu ix0 = 1#1) (i : s.Idx) :
    IsReal (X i) := by
  have : Subsingleton S_.Idx := ⟨fun a b => funext fun k => k.elim0⟩
  have hi : Ideal.cmp .olt (max (X i) (-X i)) (Ideal.ofBits .f32 0x7F800000#32) = 1#1 := Host.reduce_andi_all _ _ _ _ _ e i
  rw [ofBits_top] at hi
  apply isReal_of_abs_lt
  by_contra hn
  simp [Ideal.cmp, hn] at hi

theorem and_at (x y : IVec S_ 1) (e : andi x y ix0 = 1#1) : x ix0 = 1#1 ∧ y ix0 = 1#1 := IntOp.andi_eq_one.1 e

open Cert.ReferenceIdeal.Stage (Args) in
/-- The arguments the precondition names are real. -/
theorem finite (A : Args Ideal) (h : @fn facts Ideal _ A.embs A.mask A.mlpG A.mlpB A.mlpW1 A.mlpB1 A.mlpW2 A.mlpB2 A.inW A.inB A.outW A.outB A.cb A.pos
    A.ln1G A.ln1B A.wq A.wk A.wv A.wo A.ln2G A.ln2B A.ffnW1 A.ffnB1 A.ffnW2 A.ffnB2 A.lastG A.lastB = fun _ => 1#1) : Cert.Agree.Finite A := by
  have e := congrFun h ix0
  dsimp only [fn, fn_part1, fn_part2, fn_part3] at e
  obtain ⟨e, e23⟩ := and_at _ _ e
  obtain ⟨e, e22⟩ := and_at _ _ e
  obtain ⟨e, e21⟩ := and_at _ _ e
  obtain ⟨e, e20⟩ := and_at _ _ e
  obtain ⟨e, e17⟩ := and_at _ _ e
  obtain ⟨e, e16⟩ := and_at _ _ e
  obtain ⟨e, e15⟩ := and_at _ _ e
  obtain ⟨e, e14⟩ := and_at _ _ e
  obtain ⟨e, e5⟩ := and_at _ _ e
  obtain ⟨e, e4⟩ := and_at _ _ e
  obtain ⟨e, e3⟩ := and_at _ _ e
  exact ⟨fun k => real_of_all _ _ _ _ _ e _, fun k => real_of_all _ _ _ _ _ e3 _, fun k j => real_of_all _ _ _ _ _ e4 _,
    fun k => real_of_all _ _ _ _ _ e5 _, fun k => real_of_all _ _ _ _ _ e14 _, fun k => real_of_all _ _ _ _ _ e15 _,
    fun k j => real_of_all _ _ _ _ _ e16 _, fun k j => real_of_all _ _ _ _ _ e17 _, fun k => real_of_all _ _ _ _ _ e20 _,
    fun k => real_of_all _ _ _ _ _ e21 _, fun k j => real_of_all _ _ _ _ _ e22 _, fun k => real_of_all _ _ _ _ _ e23 _⟩

end Cert.Pre_finite_gates
-- ==== Proof.lean ====
/-
  The certificate: the three frames, that the named constants' bit patterns stand for their reals, and the equality of the
  kernel's results with the reference's.
-/
module

public import proofs.«01_k».proof.Defs
public import proofs.«01_k».proof.Proof.KernelRun
public import proofs.«01_k».proof.Proof.KernelIdealRun
public import proofs.«01_k».proof.Proof.RefRun
public import proofs.«01_k».proof.Proof.KernelValue
public import proofs.«01_k».proof.Proof.Gates
public import Idealize.ShloMosaic.Adequacy
public import Idealize.ShloMosaic.Lib.Claim
public import Idealize.ShloMosaic.Init

@[expose] public section

noncomputable section

namespace Cert.Proof

open Idealize.ShloMosaic Idealize.SL.Sem

/-- The kernel leaves its arguments alone and every counter at zero. -/
theorem frame_kernel : Cert.quiescent_Kernel (hKernel := Cert.Kernel.Gen.facts) := fun m ρ _ =>
  open Cert.Kernel Cert.Kernel.Gen in
  θ_run_and (frame_of m ρ (dats m) (A_eq m) (run_main m ρ))
    ((θ_run defs _ _).mono (fun _ h => h.2) (run_main_quiescent m ρ))

/-- So does its real-number reading. -/
theorem frame_kernelIdeal : Cert.quiescent_KernelIdeal (hKernelIdeal := Cert.KernelIdeal.Gen.facts) := fun m ρ _ =>
  open Cert.KernelIdeal Cert.KernelIdeal.Gen in
  θ_run_and (frame_of m ρ (dats m) (A_eq m) (run_main m ρ))
    ((θ_run defs _ _).mono (fun _ h => h.2) (run_main_quiescent m ρ))

open Cert.ReferenceIdeal Cert.ReferenceIdeal.RefRun in
/-- The reference leaves its arguments alone; it has no counters. -/
theorem frame_referenceIdeal : Cert.quiescent_ReferenceIdeal (hReferenceIdeal := Cert.ReferenceIdeal.Gen.facts) := fun m ρ _ =>
  (θ_run defs _ _).mono (fun r h => ⟨fun c => ⟨(h c).2.2.2 _ not_written0, (h c).2.2.2 _ not_written1, (h c).2.2.2 _ not_written2, (h c).2.2.2 _ not_written3, (h c).2.2.2 _ not_written4, (h c).2.2.2 _ not_written5, (h c).2.2.2 _ not_written6,
       (h c).2.2.2 _ not_written7, (h c).2.2.2 _ not_written8, (h c).2.2.2 _ not_written9, (h c).2.2.2 _ not_written10, (h c).2.2.2 _ not_written11, (h c).2.2.2 _ not_written12, (h c).2.2.2 _ not_written13,
       (h c).2.2.2 _ not_written14, (h c).2.2.2 _ not_written15, (h c).2.2.2 _ not_written16, (h c).2.2.2 _ not_written17, (h c).2.2.2 _ not_written18, (h c).2.2.2 _ not_written19, (h c).2.2.2 _ not_written20,
       (h c).2.2.2 _ not_written21, (h c).2.2.2 _ not_written22, (h c).2.2.2 _ not_written23, (h c).2.2.2 _ not_written24, (h c).2.2.2 _ not_written25, (h c).2.2.2 _ not_written26, (h c).2.2.2 _ not_written27⟩,
      sem_eq_zero_of_no_sems (by decide) r.2⟩) (run m ρ)

/-- What holds of every memory holds of those the precondition admits. -/
theorem frame_kernelIdeal_pre : Cert.quiescent_KernelIdeal_pre_finite_gates (hKernelIdeal := Cert.KernelIdeal.Gen.facts) (hPre_finite_gates := Cert.Pre_finite_gates.facts) :=
  fun m ρ _ => frame_kernelIdeal m ρ trivial

theorem frame_referenceIdeal_pre : Cert.quiescent_ReferenceIdeal_pre_finite_gates (hReferenceIdeal := Cert.ReferenceIdeal.Gen.facts) (hPre_finite_gates := Cert.Pre_finite_gates.facts) :=
  fun m ρ _ => frame_referenceIdeal m ρ trivial

/-- The named constants stand for their reals. -/
theorem preserves : Cert.preserves_Kernel_KernelIdeal :=
  ⟨IdealRules.named_const.statement _ _ _ _ _ rfl, IdealRules.named_const.statement _ _ _ _ _ rfl⟩

/-- At exact arithmetic the kernel's results are the reference's. -/
theorem algebraic : Cert.algebraic_KernelIdeal_ReferenceIdeal_pre_finite_gates (hKernelIdeal := Cert.KernelIdeal.Gen.facts)
    (hReferenceIdeal := Cert.ReferenceIdeal.Gen.facts) (hPre_finite_gates := Cert.Pre_finite_gates.facts) := by
  intro m g m' g' hpre hagree
  have F (c : Dev Cert.KernelIdeal.nD) : Cert.Agree.Finite (Cert.KernelIdeal.Gen.argsOf m c) := Cert.Pre_finite_gates.finite _ (hpre c)
  have hA (c : Dev Cert.KernelIdeal.nD) : Cert.ReferenceIdeal.RefRun.args (StableHlo.launchContents m' c) = Cert.KernelIdeal.Gen.argsOf m c := by
    obtain ⟨a0, a1, a2, a3, a4, a5, a6, a7, a8, a9, a10, a11, a12, a13, a14, a15, a16, a17, a18, a19, a20, a21, a22, a23, a24, a25, a26, a27⟩ := hagree c
    unfold Cert.KernelIdeal.Gen.argsOf
    rw [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27]
    rfl
  refine ⟨fun c => (Cert.KernelIdeal.Gen.argsOf m c).out, fun c => (Cert.KernelIdeal.Gen.argsOf m c).number,
    fun c => (Cert.KernelIdeal.Gen.argsOf m c).loss, ?_, ?_⟩
  · open Cert.KernelIdeal Cert.KernelIdeal.Gen in
    exact (θ_run defs _ _).mono (fun r h c => ⟨((h.1 c).1 28).trans (result_out m c (F c)),
      ((h.1 c).2 main_v17 (Pipeline.mem_restRefs_of main_v17 (by decide) (by decide))).trans (result_number m c (F c)),
      ((h.1 c).2 main_v21 (Pipeline.mem_restRefs_of main_v21 (by decide) (by decide))).trans (result_loss m c (F c)), h.2 c⟩)
      (θ_run_and (run_main m g) (frame_of m g (dats m) (A_eq m) (run_main m g)))
  · open Cert.ReferenceIdeal Cert.ReferenceIdeal.RefRun in
    exact (θ_run defs _ _).mono (fun r h c => ⟨(h c).1.trans (congrArg (·.out) (hA c)), (h c).2.1.trans (congrArg (·.number) (hA c)),
    (h c).2.2.1.trans (congrArg (·.loss) (hA c)), (h c).2.2.2 _ not_written0, (h c).2.2.2 _ not_written1, (h c).2.2.2 _ not_written2, (h c).2.2.2 _ not_written3, (h c).2.2.2 _ not_written4, (h c).2.2.2 _ not_written5, (h c).2.2.2 _ not_written6, (h c).2.2.2 _ not_written7, (h c).2.2.2 _ not_written8, (h c).2.2.2 _ not_written9, (h c).2.2.2 _ not_written10, (h c).2.2.2 _ not_written11, (h c).2.2.2 _ not_written12, (h c).2.2.2 _ not_written13, (h c).2.2.2 _ not_written14, (h c).2.2.2 _ not_written15, (h c).2.2.2 _ not_written16, (h c).2.2.2 _ not_written17, (h c).2.2.2 _ not_written18, (h c).2.2.2 _ not_written19, (h c).2.2.2 _ not_written20, (h c).2.2.2 _ not_written21, (h c).2.2.2 _ not_written22, (h c).2.2.2 _ not_written23, (h c).2.2.2 _ not_written24, (h c).2.2.2 _ not_written25, (h c).2.2.2 _ not_written26, (h c).2.2.2 _ not_written27⟩) (run m' g')

theorem claim : Cert.Claim := ⟨Cert.Kernel.Gen.facts, Cert.KernelIdeal.Gen.facts, Cert.ReferenceIdeal.Gen.facts, Cert.Pre_finite_gates.facts,
  frame_kernel, frame_kernelIdeal, frame_kernelIdeal_pre, frame_referenceIdeal, frame_referenceIdeal_pre, preserves, algebraic⟩

end Cert.Proof

end
